-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_masks [hPre_nonneg_masks : Cert.Pre_nonneg_masks.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_masks [hPre_nonneg_masks : Cert.Pre_nonneg_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_nonneg_masks [hKernelIdeal : Cert.KernelIdeal.Facts] [hPre_nonneg_masks : Cert.Pre_nonneg_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_nonneg_masks [hReferenceIdeal : Cert.ReferenceIdeal.Facts] [hPre_nonneg_masks : Cert.Pre_nonneg_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_nonneg_masks [hKernelIdeal : Cert.KernelIdeal.Facts] [hReferenceIdeal : Cert.ReferenceIdeal.Facts] [hPre_nonneg_masks : Cert.Pre_nonneg_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_nonneg_masks : Cert.Pre_nonneg_masks.Facts),
    quiescent_Kernel (hKernel := hKernel)
    ∧ quiescent_KernelIdeal (hKernelIdeal := hKernelIdeal)
    ∧ quiescent_KernelIdeal_pre_nonneg_masks (hKernelIdeal := hKernelIdeal) (hPre_nonneg_masks := hPre_nonneg_masks)
    ∧ quiescent_ReferenceIdeal (hReferenceIdeal := hReferenceIdeal)
    ∧ quiescent_ReferenceIdeal_pre_nonneg_masks (hReferenceIdeal := hReferenceIdeal) (hPre_nonneg_masks := hPre_nonneg_masks)
    ∧ preserves_Kernel_KernelIdeal
    ∧ algebraic_KernelIdeal_ReferenceIdeal_pre_nonneg_masks (hKernelIdeal := hKernelIdeal) (hReferenceIdeal := hReferenceIdeal) (hPre_nonneg_masks := hPre_nonneg_masks)
-- ==== Pre_nonneg_masks.lean ====
abbrev S2000x128 : Shape := ⟨2, ![2000, 128]⟩
abbrev S2000x2000 : Shape := ⟨2, ![2000, 2000]⟩
abbrev S2000x1 : Shape := ⟨2, ![2000, 1]⟩
abbrev S20x100 : Shape := ⟨2, ![20, 100]⟩
abbrev S1x128x128 : Shape := ⟨3, ![1, 128, 128]⟩
abbrev S_ : Shape := ⟨0, ![]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩

class Facts : Prop where
  bcast_S_S2000x1 : S_.BroadcastsInDim S2000x1 (![] : Fin 0 → Fin S2000x1.rank)

variable [Facts]

def fn {F : FTy → Type} [FloatOps F] (main_arg0 : FVec F S2000x128 .f32) (main_arg1 : FVec F S2000x2000 .f32) (main_arg2 : FVec F S2000x2000 .f32) (main_arg3 : FVec F S2000x2000 .f32) (main_arg4 : FVec F S2000x1 .f32) (main_arg5 : FVec F S20x100 .f32) (main_arg6 : FVec F S1x128x128 .f32) (main_arg7 : FVec F S_ .f32) (main_arg8 : FVec F S2x128x128 .f32) (main_arg9 : FVec F S2x128 .f32) (main_arg10 : FVec F S128x1 .f32) (main_arg11 : FVec F S1 .f32) : IVec S2000x1 1 :=
  let main_cst : FVec F S_ .f32 := constant S_ .f32 0x00000000#32
  let main_v0 : FVec F S2000x1 .f32 := broadcastInDim S2000x1 ![] bcast_S_S2000x1 main_cst
  let main_v1 : IVec S2000x1 1 := cmpf .oge main_arg4 main_v0
  let main_cst_0 : FVec F S_ .f32 := constant S_ .f32 0x00000000#32
  let main_v2 : IVec S_ 1 := cmpf .oge main_arg7 main_cst_0
  let main_v3 : IVec S2000x1 1 := broadcastInDim S2000x1 ![] bcast_S_S2000x1 main_v2
  let main_v4 : IVec S2000x1 1 := andi main_v1 main_v3
  main_v4
-- ==== Kernel.lean ====
abbrev S2000x128 : Shape := ⟨2, ![2000, 128]⟩
abbrev S2000x2000 : Shape := ⟨2, ![2000, 2000]⟩
abbrev S2000x1 : Shape := ⟨2, ![2000, 1]⟩
abbrev S20x100 : Shape := ⟨2, ![20, 100]⟩
abbrev S1x128x128 : Shape := ⟨3, ![1, 128, 128]⟩
abbrev S_ : Shape := ⟨0, ![]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S128x128 : Shape := ⟨2, ![128, 128]⟩
abbrev S1x1 : Shape := ⟨2, ![1, 1]⟩
abbrev S2x1x128 : Shape := ⟨3, ![2, 1, 128]⟩
abbrev S2x2000x1 : Shape := ⟨3, ![2, 2000, 1]⟩
abbrev S400x2000 : Shape := ⟨2, ![400, 2000]⟩
abbrev S1x1x128 : Shape := ⟨3, ![1, 1, 128]⟩
abbrev S400x1 : Shape := ⟨2, ![400, 1]⟩
abbrev S1x400x1 : Shape := ⟨3, ![1, 400, 1]⟩
abbrev S128x2000 : Shape := ⟨2, ![128, 2000]⟩
abbrev S400x128 : Shape := ⟨2, ![400, 128]⟩
abbrev S128 : Shape := ⟨1, ![128]⟩
abbrev S1x128 : Shape := ⟨2, ![1, 128]⟩
abbrev S1x2000x1 : Shape := ⟨3, ![1, 2000, 1]⟩

abbrev nBuf : Space → Nat
  | .hbm => 21
  | .vmem => 25
  | .smem => 0
  | _ => 0

abbrev bufTy : (tb : Table) → Fin (tcTables nBuf tb) → BufTy
  | .hbm, ⟨0, _⟩ => ⟨S2000x128, .f32⟩
  | .hbm, ⟨1, _⟩ => ⟨S2000x2000, .f32⟩
  | .hbm, ⟨2, _⟩ => ⟨S2000x2000, .f32⟩
  | .hbm, ⟨3, _⟩ => ⟨S2000x2000, .f32⟩
  | .hbm, ⟨4, _⟩ => ⟨S2000x1, .f32⟩
  | .hbm, ⟨5, _⟩ => ⟨S20x100, .f32⟩
  | .hbm, ⟨6, _⟩ => ⟨S1x128x128, .f32⟩
  | .hbm, ⟨7, _⟩ => ⟨S_, .f32⟩
  | .hbm, ⟨8, _⟩ => ⟨S2x128x128, .f32⟩
  | .hbm, ⟨9, _⟩ => ⟨S2x128, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S1x1, .f32⟩
  | .hbm, ⟨14, _⟩ => ⟨S2x1x128, .f32⟩
  | .hbm, ⟨15, _⟩ => ⟨S1x1, .f32⟩
  | .hbm, ⟨16, _⟩ => ⟨S2000x1, .f32⟩
  | .hbm, ⟨17, _⟩ => ⟨S2x2000x1, .f32⟩
  | .hbm, ⟨18, _⟩ => ⟨S1x2000x1, .f32⟩
  | .hbm, ⟨19, _⟩ => ⟨S2000x1, .f32⟩
  | .hbm, ⟨20, _⟩ => ⟨S20x100, .f32⟩
  | .local _ .vmem, ⟨0, _⟩ => ⟨S2000x128, .f32⟩
  | .local _ .vmem, ⟨1, _⟩ => ⟨S400x2000, .f32⟩
  | .local _ .vmem, ⟨2, _⟩ => ⟨S400x2000, .f32⟩
  | .local _ .vmem, ⟨3, _⟩ => ⟨S400x2000, .f32⟩
  | .local _ .vmem, ⟨4, _⟩ => ⟨S400x2000, .f32⟩
  | .local _ .vmem, ⟨5, _⟩ => ⟨S400x2000, .f32⟩
  | .local _ .vmem, ⟨6, _⟩ => ⟨S400x2000, .f32⟩
  | .local _ .vmem, ⟨7, _⟩ => ⟨S2000x1, .f32⟩
  | .local _ .vmem, ⟨8, _⟩ => ⟨S128x128, .f32⟩
  | .local _ .vmem, ⟨9, _⟩ => ⟨S1x1, .f32⟩
  | .local _ .vmem, ⟨10, _⟩ => ⟨S1x128x128, .f32⟩
  | .local _ .vmem, ⟨11, _⟩ => ⟨S1x128x128, .f32⟩
  | .local _ .vmem, ⟨12, _⟩ => ⟨S1x1x128, .f32⟩
  | .local _ .vmem, ⟨13, _⟩ => ⟨S1x1x128, .f32⟩
  | .local _ .vmem, ⟨14, _⟩ => ⟨S128x1, .f32⟩
  | .local _ .vmem, ⟨15, _⟩ => ⟨S1x1, .f32⟩
  | .local _ .vmem, ⟨16, _⟩ => ⟨S400x1, .f32⟩
  | .local _ .vmem, ⟨17, _⟩ => ⟨S400x1, .f32⟩
  | .local _ .vmem, ⟨18, _⟩ => ⟨S1x400x1, .f32⟩
  | .local _ .vmem, ⟨19, _⟩ => ⟨S1x400x1, .f32⟩
  | .local _ .vmem, ⟨20, _⟩ => ⟨S2000x2000, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x2000, .f32⟩
  | _, _ => ⟨S2000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 5], ![false, false]⟩

def k0_off1 (i : grid0.Coords) : Fin 2 → Nat :=
  let arg1 : BitVec 32 := BitVec.ofNat 32 (i 1).val
  let c400_i32 : BitVec 32 := 400#32
  let v0 : BitVec 32 := Scalar.muli arg1 c400_i32
  let v4 : Index := Scalar.indexCast v0
  let c0 : Index := 0#32
  ![v4.toNat, 0]
def k0_cond4 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off2 (i : grid0.Coords) : Fin 2 → Nat :=
  let arg1 : BitVec 32 := BitVec.ofNat 32 (i 1).val
  let c400_i32 : BitVec 32 := 400#32
  let v0 : BitVec 32 := Scalar.muli arg1 c400_i32
  let v73 : Index := Scalar.indexCast v0
  let c0_45 : Index := 0#32
  ![v73.toNat, 0]
def k0_off3 (i : grid0.Coords) : Fin 2 → Nat :=
  let arg1 : BitVec 32 := BitVec.ofNat 32 (i 1).val
  let c400_i32 : BitVec 32 := 400#32
  let v0 : BitVec 32 := Scalar.muli arg1 c400_i32
  let v16 : Index := Scalar.indexCast v0
  let c0_9 : Index := 0#32
  ![v16.toNat, 0]
def k0_off4 (i : grid0.Coords) : Fin 2 → Nat :=
  let arg1 : BitVec 32 := BitVec.ofNat 32 (i 1).val
  let c400_i32 : BitVec 32 := 400#32
  let v0 : BitVec 32 := Scalar.muli arg1 c400_i32
  let v21 : Index := Scalar.indexCast v0
  let c0_12 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.select v0 arg1 c4_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.select v0 arg1 c4_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.select v0 arg1 c4_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S400x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S400x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2000x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S400x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x400x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2000x128 : Shape := ⟨2, ![2000, 128]⟩
abbrev S2000x2000 : Shape := ⟨2, ![2000, 2000]⟩
abbrev S2000x1 : Shape := ⟨2, ![2000, 1]⟩
abbrev S20x100 : Shape := ⟨2, ![20, 100]⟩
abbrev S1x128x128 : Shape := ⟨3, ![1, 128, 128]⟩
abbrev S_ : Shape := ⟨0, ![]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S128x128 : Shape := ⟨2, ![128, 128]⟩
abbrev S128x2000 : Shape := ⟨2, ![128, 2000]⟩
abbrev S1x2000 : Shape := ⟨2, ![1, 2000]⟩
abbrev S2000 : Shape := ⟨1, ![2000]⟩
abbrev S1x128 : Shape := ⟨2, ![1, 128]⟩
abbrev S128 : Shape := ⟨1, ![128]⟩
abbrev S20x100x128 : Shape := ⟨3, ![20, 100, 128]⟩
abbrev S20x100x1 : Shape := ⟨3, ![20, 100, 1]⟩
abbrev S1x1x1 : Shape := ⟨3, ![1, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S2000x128, .f32⟩
  | .hbm, ⟨1, _⟩ => ⟨S2000x2000, .f32⟩
  | .hbm, ⟨2, _⟩ => ⟨S2000x2000, .f32⟩
  | .hbm, ⟨3, _⟩ => ⟨S2000x2000, .f32⟩
  | .hbm, ⟨4, _⟩ => ⟨S2000x1, .f32⟩
  | .hbm, ⟨5, _⟩ => ⟨S20x100, .f32⟩
  | .hbm, ⟨6, _⟩ => ⟨S1x128x128, .f32⟩
  | .hbm, ⟨7, _⟩ => ⟨S_, .f32⟩
  | .hbm, ⟨8, _⟩ => ⟨S2x128x128, .f32⟩
  | .hbm, ⟨9, _⟩ => ⟨S2x128, .f32⟩
  | .hbm, ⟨10, _⟩ => ⟨S128x1, .f32⟩
  | .hbm, ⟨11, _⟩ => ⟨S1, .f32⟩
  | .hbm, ⟨12, _⟩ => ⟨S2000x2000, .i32⟩
  | .hbm, ⟨13, _⟩ => ⟨S2000x2000, .i32⟩
  | .hbm, ⟨14, _⟩ => ⟨S_, .i32⟩
  | .hbm, ⟨15, _⟩ => ⟨S2000x2000, .i32⟩
  | .hbm, ⟨16, _⟩ => ⟨S2000x2000, .i32⟩
  | .hbm, ⟨17, _⟩ => ⟨S2000x2000, .i1⟩
  | .hbm, ⟨18, _⟩ => ⟨S2000x2000, .f32⟩
  | .hbm, ⟨19, _⟩ => ⟨S128x128, .f32⟩
  | .hbm, ⟨20, _⟩ => ⟨S2000x128, .f32⟩
  | .hbm, ⟨21, _⟩ => ⟨S128x2000, .f32⟩
  | .hbm, ⟨22, _⟩ => ⟨S2000x2000, .f32⟩
  | .hbm, ⟨23, _⟩ => ⟨S2000x2000, .f32⟩
  | .hbm, ⟨24, _⟩ => ⟨S2000x2000, .f32⟩
  | .hbm, ⟨25, _⟩ => ⟨S2000x2000, .f32⟩
  | .hbm, ⟨26, _⟩ => ⟨S_, .f32⟩
  | .hbm, ⟨27, _⟩ => ⟨S2000x2000, .f32⟩
  | .hbm, ⟨28, _⟩ => ⟨S2000x2000, .f32⟩
  | .hbm, ⟨29, _⟩ => ⟨S2000x2000, .f32⟩
  | .hbm, ⟨30, _⟩ => ⟨S2000x2000, .f32⟩
  | .hbm, ⟨31, _⟩ => ⟨S_, .f32⟩
  | .hbm, ⟨32, _⟩ => ⟨S2000x2000, .f32⟩
  | .hbm, ⟨33, _⟩ => ⟨S2000x2000, .f32⟩
  | .hbm, ⟨34, _⟩ => ⟨S_, .f32⟩
  | .hbm, ⟨35, _⟩ => ⟨S2000x2000, .f32⟩
  | .hbm, ⟨36, _⟩ => ⟨S2000x2000, .f32⟩
  | .hbm, ⟨37, _⟩ => ⟨S2000x2000, .f32⟩
  | .hbm, ⟨38, _⟩ => ⟨S2000x2000, .f32⟩
  | .hbm, ⟨39, _⟩ => ⟨S2000x2000, .f32⟩
  | .hbm, ⟨40, _⟩ => ⟨S2000x2000, .f32⟩
  | .hbm, ⟨41, _⟩ => ⟨S2000x2000, .f32⟩
  | .hbm, ⟨42, _⟩ => ⟨S1x2000, .f32⟩
  | .hbm, ⟨43, _⟩ => ⟨S2000x2000, .f32⟩
  | .hbm, ⟨44, _⟩ => ⟨S2000x2000, .f32⟩
  | .hbm, ⟨45, _⟩ => ⟨S_, .f32⟩
  | .hbm, ⟨46, _⟩ => ⟨S2000, .f32⟩
  | .hbm, ⟨47, _⟩ => ⟨S2000x1, .f32⟩
  | .hbm, ⟨48, _⟩ => ⟨S_, .f32⟩
  | .hbm, ⟨49, _⟩ => ⟨S2000x1, .f32⟩
  | .hbm, ⟨50, _⟩ => ⟨S2000x1, .f32⟩
  | .hbm, ⟨51, _⟩ => ⟨S2000x2000, .f32⟩
  | .hbm, ⟨52, _⟩ => ⟨S2000x2000, .f32⟩
  | .hbm, ⟨53, _⟩ => ⟨S2000x128, .f32⟩
  | .hbm, ⟨54, _⟩ => ⟨S_, .f32⟩
  | .hbm, ⟨55, _⟩ => ⟨S2000x128, .f32⟩
  | .hbm, ⟨56, _⟩ => ⟨S2000x128, .f32⟩
  | .hbm, ⟨57, _⟩ => ⟨S1x128x128, .f32⟩
  | .hbm, ⟨58, _⟩ => ⟨S128x128, .f32⟩
  | .hbm, ⟨59, _⟩ => ⟨S2000x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S2000x128, .f32⟩
  | .hbm, ⟨64, _⟩ => ⟨S2000x128, .f32⟩
  | .hbm, ⟨65, _⟩ => ⟨S2000x128, .f32⟩
  | .hbm, ⟨66, _⟩ => ⟨S128x128, .f32⟩
  | .hbm, ⟨67, _⟩ => ⟨S2000x128, .f32⟩
  | .hbm, ⟨68, _⟩ => ⟨S128x2000, .f32⟩
  | .hbm, ⟨69, _⟩ => ⟨S2000x2000, .f32⟩
  | .hbm, ⟨70, _⟩ => ⟨S2000x2000, .f32⟩
  | .hbm, ⟨71, _⟩ => ⟨S2000x2000, .f32⟩
  | .hbm, ⟨72, _⟩ => ⟨S2000x2000, .f32⟩
  | .hbm, ⟨73, _⟩ => ⟨S_, .f32⟩
  | .hbm, ⟨74, _⟩ => ⟨S2000x2000, .f32⟩
  | .hbm, ⟨75, _⟩ => ⟨S2000x2000, .f32⟩
  | .hbm, ⟨76, _⟩ => ⟨S2000x2000, .f32⟩
  | .hbm, ⟨77, _⟩ => ⟨S2000x2000, .f32⟩
  | .hbm, ⟨78, _⟩ => ⟨S_, .f32⟩
  | .hbm, ⟨79, _⟩ => ⟨S2000x2000, .f32⟩
  | .hbm, ⟨80, _⟩ => ⟨S2000x2000, .f32⟩
  | .hbm, ⟨81, _⟩ => ⟨S_, .f32⟩
  | .hbm, ⟨82, _⟩ => ⟨S2000x2000, .f32⟩
  | .hbm, ⟨83, _⟩ => ⟨S2000x2000, .f32⟩
  | .hbm, ⟨84, _⟩ => ⟨S2000x2000, .f32⟩
  | .hbm, ⟨85, _⟩ => ⟨S2000x2000, .f32⟩
  | .hbm, ⟨86, _⟩ => ⟨S2000x2000, .f32⟩
  | .hbm, ⟨87, _⟩ => ⟨S2000x2000, .f32⟩
  | .hbm, ⟨88, _⟩ => ⟨S2000x2000, .f32⟩
  | .hbm, ⟨89, _⟩ => ⟨S1x2000, .f32⟩
  | .hbm, ⟨90, _⟩ => ⟨S2000x2000, .f32⟩
  | .hbm, ⟨91, _⟩ => ⟨S2000x2000, .f32⟩
  | .hbm, ⟨92, _⟩ => ⟨S_, .f32⟩
  | .hbm, ⟨93, _⟩ => ⟨S2000, .f32⟩
  | .hbm, ⟨94, _⟩ => ⟨S2000x1, .f32⟩
  | .hbm, ⟨95, _⟩ => ⟨S_, .f32⟩
  | .hbm, ⟨96, _⟩ => ⟨S2000x1, .f32⟩
  | .hbm, ⟨97, _⟩ => ⟨S2000x1, .f32⟩
  | .hbm, ⟨98, _⟩ => ⟨S2000x2000, .f32⟩
  | .hbm, ⟨99, _⟩ => ⟨S2000x2000, .f32⟩
  | .hbm, ⟨100, _⟩ => ⟨S2000x128, .f32⟩
  | .hbm, ⟨101, _⟩ => ⟨S_, .f32⟩
  | .hbm, ⟨102, _⟩ => ⟨S2000x128, .f32⟩
  | .hbm, ⟨103, _⟩ => ⟨S2000x128, .f32⟩
  | .hbm, ⟨104, _⟩ => ⟨S1x128x128, .f32⟩
  | .hbm, ⟨105, _⟩ => ⟨S128x128, .f32⟩
  | .hbm, ⟨106, _⟩ => ⟨S2000x128, .f32⟩
  | .hbm, ⟨107, _⟩ => ⟨S1x128, .f32⟩
  | .hbm, ⟨108, _⟩ => ⟨S128, .f32⟩
  | .hbm, ⟨109, _⟩ => ⟨S1x128, .f32⟩
  | .hbm, ⟨110, _⟩ => ⟨S2000x128, .f32⟩
  | .hbm, ⟨111, _⟩ => ⟨S2000x128, .f32⟩
  | .hbm, ⟨112, _⟩ => ⟨S2000x128, .f32⟩
  | .hbm, ⟨113, _⟩ => ⟨S20x100x128, .f32⟩
  | .hbm, ⟨114, _⟩ => ⟨S20x100x1, .f32⟩
  | .hbm, ⟨115, _⟩ => ⟨S1x1x1, .f32⟩
  | .hbm, ⟨116, _⟩ => ⟨S20x100x1, .f32⟩
  | .hbm, ⟨117, _⟩ => ⟨S20x100x1, .f32⟩
  | .hbm, ⟨118, _⟩ => ⟨S20x100, .f32⟩
  | .hbm, ⟨119, _⟩ => ⟨S20x100, .f32⟩
  | _, _ => ⟨S2000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_8 : Ref sig .tc := ⟨.hbm, 92, rfl⟩
abbrev main_v70 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_10 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== Proof.KI.Conds.lean ====
/- The four cases of the kernel body's conditions, and the region invariant's scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions -/

/-- The first row block of an iteration: the features are brought in here. -/
abbrev condB (i : grid0.Coords) : Prop :=
  (Scalar.cmpi .ne (Scalar.extui (Scalar.cmpi .eq (BitVec.ofNat 32 (i 1).val) 0#32)) 0#32) = 1#1
/-- The first iteration. -/
abbrev condI (i : grid0.Coords) : Prop :=
  (Scalar.cmpi .ne (Scalar.extui (Scalar.cmpi .eq (BitVec.ofNat 32 (i 0).val) 0#32)) 0#32) = 1#1
/-- A later iteration. -/
abbrev condJ (i : grid0.Coords) : Prop :=
  (Scalar.cmpi .ne (Scalar.extui (Scalar.cmpi .sgt (BitVec.ofNat 32 (i 0).val) 0#32)) 0#32) = 1#1

/-- Point `t` is in iteration `t / 5`. -/
theorem coord_i (t : Fin grid0.N) : ((grid0.coords t) 0).val = t.val / 5 := by

  have hN : t.val < 10 := lt_of_lt_of_eq t.isLt (show grid0.N = 10 from N_0)
  have e : ((grid0.coords t) 0).val = t.val / 5 % 2 := Pipeline.Grid.coords_val (G := grid0) t 0 (by decide) rfl
  omega
/-- Point `t` is at row block `t % 5`. -/
theorem coord_b (t : Fin grid0.N) : ((grid0.coords t) 1).val = t.val % 5 := by
  have e : ((grid0.coords t) 1).val = t.val / 1 % 5 := Pipeline.Grid.coords_val (G := grid0) t 1 (by decide) rfl
  omega

/-- A point is at the first row block of an iteration exactly when 5 divides its position. -/
theorem condB_iff (t : Fin grid0.N) : condB (grid0.coords t) ↔ t.val % 5 = 0 := by
  have hN : t.val < 10 := lt_of_lt_of_eq t.isLt (show grid0.N = 10 from N_0)
  have e := coord_b t
  simp only [condB, e]; word_cmp
/-- A point is in the first iteration exactly when its position is below 5. -/
theorem condI_iff (t : Fin grid0.N) : condI (grid0.coords t) ↔ t.val < 5 := by
  have hN : t.val < 10 := lt_of_lt_of_eq t.isLt (show grid0.N = 10 from N_0)
  have e := coord_i t
  have h : condI (grid0.coords t) ↔ t.val / 5 = 0 := by simp only [condI, e]; word_cmp
  rw [h]; omega
/-- A point is in a later iteration exactly when its position is not below 5. -/
theorem condJ_iff (t : Fin grid0.N) : condJ (grid0.coords t) ↔ ¬ t.val < 5 := by
  have hN : t.val < 10 := lt_of_lt_of_eq t.isLt (show grid0.N = 10 from N_0)
  have e := coord_i t
  have h : condJ (grid0.coords t) ↔ 0 < t.val / 5 := by simp only [condJ, e]; word_cmp
  rw [h]; omega

/-! ## The scratch buffers -/

/-- The scaled adjacency sum, all rows. -/
abbrev scS : Memref sig .tc .vmem S2000x2000 .f32 := Memref.whole cc0_scratch0
/-- The features of the iteration. -/
abbrev scH : Memref sig .tc .vmem S2000x128 .f32 := Memref.whole cc0_scratch1
/-- The features of the next iteration. -/
abbrev scN : Memref sig .tc .vmem S2000x128 .f32 := Memref.whole cc0_scratch2
/-- The features times the candidate mask. -/
abbrev scM : Memref sig .tc .vmem S2000x128 .f32 := Memref.whole cc0_scratch3
/-- The features transposed. -/
abbrev scT : Memref sig .tc .vmem S128x2000 .f32 := Memref.whole cc0_scratch4

/-- What the launch hands the region: the five scratch buffers at anything and the generator register. -/
theorem PhiA0_eq (c : Dev nD) :
    (Pipeline.ΦA spec0 c : sProp 𝕄)
      = iprop(iprop((∃ d, owns (c : Thread nD τ) scS fullShare d) ∗ (∃ d, owns (c : Thread nD τ) scH fullShare d)
          ∗ (∃ d, owns (c : Thread nD τ) scN fullShare d) ∗ (∃ d, owns (c : Thread nD τ) scM fullShare d)
          ∗ (∃ d, owns (c : Thread nD τ) scT fullShare d)) ∗ (∃ r, prngReg c r)) := by
  unfold Pipeline.ΦA; rw [scopedRest0_eq]; simp only [scS, scH, scN, scM, scT, owns_whole]; try rfl

end Cert.KernelIdeal.Gen

end
-- ==== Proof.KI.Runs.lean ====
/- One pass of the kernel body, in each of the four cases of its conditions: what it leaves in the output block and
   in the five scratch buffers, as functions of what it found. -/
module

public import proofs.«01_k».proof.Proof.KI.Conds
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A row block of the next features: what the body computes at one grid point, of the row block `hb` of the features, the
    similarity weights, the transposed features, the row block of the scaled adjacency, the candidate mask and its row block, the diagonal
    weight, the masked features, and the layer's weights and bias. -/
def blkH (hb : Vec F S400x128 .f32) (sim : Vec F S128x128 .f32) (ht : Vec F S128x2000 .f32) (s : Vec F S400x2000 .f32)
    (cm : Vec F S2000x1 .f32) (rm : Vec F S400x1 .f32) (dv : Vec F S1x1 .f32) (hm : Vec F S2000x128 .f32)
    (W : Vec F S1x128x128 .f32) (bi : Vec F S1x1x128 .f32) : Vec F S400x128 .f32 :=
  k0_pay2 hb (k0_pay9 hb sim ht s) rm (k0_pay10 rm dv) (k0_pay11 hb sim ht s cm rm dv) hm W bi

/-- The output block the body computes beside it, with the output layer's weights, bias and the row block of the output mask. -/
def blkO (hb : Vec F S400x128 .f32) (sim : Vec F S128x128 .f32) (ht : Vec F S128x2000 .f32) (s : Vec F S400x2000 .f32)
    (cm : Vec F S2000x1 .f32) (rm : Vec F S400x1 .f32) (dv : Vec F S1x1 .f32) (hm : Vec F S2000x128 .f32)
    (W : Vec F S1x128x128 .f32) (bi : Vec F S1x1x128 .f32) (wo : Vec F S128x1 .f32) (bo : Vec F S1x1 .f32) (om : Vec F S400x1 .f32) :
    Vec F S1x400x1 .f32 :=
  k0_pay3 hb (k0_pay9 hb sim ht s) rm (k0_pay10 rm dv) (k0_pay11 hb sim ht s cm rm dv) hm W bi wo bo om

/-- The row block of a 2000 × 128 array at the body's row offset. -/
abbrev rowsH (i : grid0.Coords) (X : Vec F S2000x128 .f32) : Vec F S400x128 .f32 :=
  VecWindow.window X (k0_off1 i) S400x128.size (k0_off1_inb i)
/-- The row block of a 2000 × 2000 array there. -/
abbrev rowsS (i : grid0.Coords) (X : Vec F S2000x2000 .f32) : Vec F S400x2000 .f32 :=
  VecWindow.window X (k0_off3 i) S400x2000.size (k0_off3_inb i)
/-- The row block of a 2000 × 1 array there. -/
abbrev rowsC (i : grid0.Coords) (X : Vec F S2000x1 .f32) : Vec F S400x1 .f32 :=
  VecWindow.window X (k0_off4 i) S400x1.size (k0_off4_inb i)

/-- A load over one store at the same rectangle reads the stored block. -/
theorem readCov_same {κ : Kind} {sp : Space} {s : Shape} {e : EltTy} (v : View sig κ sp s e) (r : Rect s) (w : r.shape.Idx → Elt F e) :
    v.readCov [⟨r, w⟩] r.toLoadRect = w := by
  funext x
  exact View.read_writes_cons_emb v v.junk r w [] x

/-- The body's payload for the next features, at loads equal to the block's arguments. -/
theorem blkH_eq {hb hb' : Vec F S400x128 .f32} {sim sim' : Vec F S128x128 .f32} {ht ht' : Vec F S128x2000 .f32} {s s' : Vec F S400x2000 .f32}
    {cm cm' : Vec F S2000x1 .f32} {rm rm' : Vec F S400x1 .f32} {dv dv' : Vec F S1x1 .f32} {hm hm' : Vec F S2000x128 .f32}
    {W W' : Vec F S1x128x128 .f32} {bi bi' : Vec F S1x1x128 .f32}
    (h1 : hb = hb') (h2 : sim = sim') (h3 : ht = ht') (h4 : s = s') (h5 : cm = cm') (h6 : rm = rm') (h7 : dv = dv') (h8 : hm = hm')
    (h9 : W = W') (h10 : bi = bi') :
    k0_pay2 hb (k0_pay9 hb sim ht s) rm (k0_pay10 rm dv) (k0_pay11 hb sim ht s cm rm dv) hm W bi
      = blkH hb' sim' ht' s' cm' rm' dv' hm' W' bi' := by
  subst h1 h2 h3 h4 h5 h6 h7 h8 h9 h10; rfl

/-- The same of the output block. -/
theorem blkO_eq {hb hb' : Vec F S400x128 .f32} {sim sim' : Vec F S128x128 .f32} {ht ht' : Vec F S128x2000 .f32} {s s' : Vec F S400x2000 .f32}
    {cm cm' : Vec F S2000x1 .f32} {rm rm' : Vec F S400x1 .f32} {dv dv' : Vec F S1x1 .f32} {hm hm' : Vec F S2000x128 .f32}
    {W W' : Vec F S1x128x128 .f32} {bi bi' : Vec F S1x1x128 .f32} {wo wo' : Vec F S128x1 .f32} {bo bo' : Vec F S1x1 .f32} {om om' : Vec F S400x1 .f32}
    (h1 : hb = hb') (h2 : sim = sim') (h3 : ht = ht') (h4 : s = s') (h5 : cm = cm') (h6 : rm = rm') (h7 : dv = dv') (h8 : hm = hm')
    (h9 : W = W') (h10 : bi = bi') (h11 : wo = wo') (h12 : bo = bo') (h13 : om = om') :
    k0_pay3 hb (k0_pay9 hb sim ht s) rm (k0_pay10 rm dv) (k0_pay11 hb sim ht s cm rm dv) hm W bi wo bo om
      = blkO hb' sim' ht' s' cm' rm' dv' hm' W' bi' wo' bo' om' := by
  subst h1 h2 h3 h4 h5 h6 h7 h8 h9 h10 h11 h12 h13; rfl

set_option maxHeartbeats 2000000 in
/-- A later row block of the first iteration: the scaled adjacency block is stored and used; the features are as found. -/
theorem run_later_row (c : Dev nD) (i : grid0.Coords)
    (arg2 : Memref sig .tc .vmem S2000x128 .f32) (harg2 : arg2.IsWhole) (arg3 : Memref sig .tc .vmem S400x2000 .f32) (harg3 : arg3.IsWhole) (arg4 : Memref sig .tc .vmem S400x2000 .f32) (harg4 : arg4.IsWhole) (arg5 : Memref sig .tc .vmem S400x2000 .f32) (harg5 : arg5.IsWhole) (arg6 : Memref sig .tc .vmem S2000x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S400x1 .f32) (harg13 : arg13.IsWhole) (arg14 : Memref sig .tc .vmem S1x400x1 .f32) (harg14 : arg14.IsWhole) (arg15 : Memref sig .tc .vmem S2000x2000 .f32) (harg15 : arg15.IsWhole) (arg16 : Memref sig .tc .vmem S2000x128 .f32) (harg16 : arg16.IsWhole) (arg17 : Memref sig .tc .vmem S2000x128 .f32) (harg17 : arg17.IsWhole) (arg18 : Memref sig .tc .vmem S2000x128 .f32) (harg18 : arg18.IsWhole) (arg19 : Memref sig .tc .vmem S128x2000 .f32) (harg19 : arg19.IsWhole)
    (hb : ¬condB i) (hi : k0_cond4 i = 1#1)
    (x2 : Vec F S2000x128 .f32) (x3 : Vec F S400x2000 .f32) (x4 : Vec F S400x2000 .f32) (x5 : Vec F S400x2000 .f32) (x6 : Vec F S2000x1 .f32) (x7 : Vec F S128x128 .f32) (x8 : Vec F S1x1 .f32) (x9 : Vec F S1x128x128 .f32) (x10 : Vec F S1x1x128 .f32) (x11 : Vec F S128x1 .f32) (x12 : Vec F S1x1 .f32) (x13 : Vec F S400x1 .f32) (x15 : Vec F S2000x2000 .f32) (x16 : Vec F S2000x128 .f32) (x17 : Vec F S2000x128 .f32) (x18 : Vec F S2000x128 .f32) (x19 : Vec F S128x2000 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (blkO (rowsH i (x16)) x7 (x19) (k0_pay8 x3 x4 x5) x6 (rowsC i x6) x8 (x18) x9 x10 x11 x12 x13) ∗ owns (c : Thread nD τ) arg15 fullShare (VecWindow.put x15 (k0_off2 i) S400x2000.size (k0_pay8 x3 x4 x5)) ∗ owns (c : Thread nD τ) arg16 fullShare (x16) ∗ owns (c : Thread nD τ) arg17 fullShare (VecWindow.put x17 (k0_off1 i) S400x128.size (blkH (rowsH i (x16)) x7 (x19) (k0_pay8 x3 x4 x5) x6 (rowsC i x6) x8 (x18) x9 x10)) ∗ owns (c : Thread nD τ) arg18 fullShare (x18) ∗ owns (c : Thread nD τ) arg19 fullShare (x19)) -∗ K ⟨⟩))
    ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16; obtain rfl := harg17.eq_unread hf17; obtain rfl := harg18.eq_unread hf18; obtain rfl := harg19.eq_unread hf19
  sl_exec (disch := first | sl_exact hb | sl_exact hi)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; refine (View.read_writes_full _ _ _ _ _).trans ?_
    dsimp only
    exact blkO_eq (congrArg (fun X => VecWindow.window X _ _ _) (harg16.read_unread _)) ((View.readAt_full _ _ _).trans (harg7.read_unread _)) ((View.readAt_full _ _ _).trans (harg19.read_unread _)) ((readCov_same _ _ _).trans (congr (congrArg₂ k0_pay8 ((View.readAt_full _ _ _).trans (harg3.read_unread _)) ((View.readAt_full _ _ _).trans (harg4.read_unread _))) ((View.readAt_full _ _ _).trans (harg5.read_unread _)))) ((View.readAt_full _ _ _).trans (harg6.read_unread _)) (congrArg (fun X => VecWindow.window X _ _ _) (harg6.read_unread _)) ((View.readAt_full _ _ _).trans (harg8.read_unread _)) ((View.readAt_full _ _ _).trans (harg18.read_unread _)) ((View.readAt_full _ _ _).trans (harg9.read_unread _)) ((View.readAt_full _ _ _).trans (harg10.read_unread _)) ((View.readAt_full _ _ _).trans (harg11.read_unread _)) ((View.readAt_full _ _ _).trans (harg12.read_unread _)) ((View.readAt_full _ _ _).trans (harg13.read_unread _))
  isplitl [H15]
  · iexists _; isplitr; swap; · iexact H15
    ipureintro; refine (View.read_writes_cons_put _ _ _ _ _ rfl).trans ?_
    rw [View.writes_nil, harg15.read_unread]
    exact congrArg (VecWindow.put x15 _ _) (congr (congrArg₂ k0_pay8 ((View.readAt_full _ _ _).trans (harg3.read_unread _)) ((View.readAt_full _ _ _).trans (harg4.read_unread _))) ((View.readAt_full _ _ _).trans (harg5.read_unread _)))
  isplitl [H16]
  · iexists _; isplitr; swap; · iexact H16
    ipureintro; exact harg16.read_unread _
  isplitl [H17]
  · iexists _; isplitr; swap; · iexact H17
    ipureintro; refine (View.read_writes_cons_put _ _ _ _ _ rfl).trans ?_
    rw [View.writes_nil, harg17.read_unread]
    refine congrArg (VecWindow.put x17 _ _) ?_
    dsimp only
    exact blkH_eq (congrArg (fun X => VecWindow.window X _ _ _) (harg16.read_unread _)) ((View.readAt_full _ _ _).trans (harg7.read_unread _)) ((View.readAt_full _ _ _).trans (harg19.read_unread _)) ((readCov_same _ _ _).trans (congr (congrArg₂ k0_pay8 ((View.readAt_full _ _ _).trans (harg3.read_unread _)) ((View.readAt_full _ _ _).trans (harg4.read_unread _))) ((View.readAt_full _ _ _).trans (harg5.read_unread _)))) ((View.readAt_full _ _ _).trans (harg6.read_unread _)) (congrArg (fun X => VecWindow.window X _ _ _) (harg6.read_unread _)) ((View.readAt_full _ _ _).trans (harg8.read_unread _)) ((View.readAt_full _ _ _).trans (harg18.read_unread _)) ((View.readAt_full _ _ _).trans (harg9.read_unread _)) ((View.readAt_full _ _ _).trans (harg10.read_unread _))
  isplitl [H18]
  · iexists _; isplitr; swap; · iexact H18
    ipureintro; exact harg18.read_unread _
  · iexists _; isplitr; swap; · iexact H19
    ipureintro; exact harg19.read_unread _

set_option maxHeartbeats 2000000 in
/-- A later row block of a later iteration: the scaled adjacency and the features are as found. -/
theorem run_later_row_later (c : Dev nD) (i : grid0.Coords)
    (arg2 : Memref sig .tc .vmem S2000x128 .f32) (harg2 : arg2.IsWhole) (arg3 : Memref sig .tc .vmem S400x2000 .f32) (harg3 : arg3.IsWhole) (arg4 : Memref sig .tc .vmem S400x2000 .f32) (harg4 : arg4.IsWhole) (arg5 : Memref sig .tc .vmem S400x2000 .f32) (harg5 : arg5.IsWhole) (arg6 : Memref sig .tc .vmem S2000x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S400x1 .f32) (harg13 : arg13.IsWhole) (arg14 : Memref sig .tc .vmem S1x400x1 .f32) (harg14 : arg14.IsWhole) (arg15 : Memref sig .tc .vmem S2000x2000 .f32) (harg15 : arg15.IsWhole) (arg16 : Memref sig .tc .vmem S2000x128 .f32) (harg16 : arg16.IsWhole) (arg17 : Memref sig .tc .vmem S2000x128 .f32) (harg17 : arg17.IsWhole) (arg18 : Memref sig .tc .vmem S2000x128 .f32) (harg18 : arg18.IsWhole) (arg19 : Memref sig .tc .vmem S128x2000 .f32) (harg19 : arg19.IsWhole)
    (hb : ¬condB i) (hi : ¬ k0_cond4 i = 1#1)
    (x2 : Vec F S2000x128 .f32) (x3 : Vec F S400x2000 .f32) (x4 : Vec F S400x2000 .f32) (x5 : Vec F S400x2000 .f32) (x6 : Vec F S2000x1 .f32) (x7 : Vec F S128x128 .f32) (x8 : Vec F S1x1 .f32) (x9 : Vec F S1x128x128 .f32) (x10 : Vec F S1x1x128 .f32) (x11 : Vec F S128x1 .f32) (x12 : Vec F S1x1 .f32) (x13 : Vec F S400x1 .f32) (x15 : Vec F S2000x2000 .f32) (x16 : Vec F S2000x128 .f32) (x17 : Vec F S2000x128 .f32) (x18 : Vec F S2000x128 .f32) (x19 : Vec F S128x2000 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (blkO (rowsH i (x16)) x7 (x19) (rowsS i x15) x6 (rowsC i x6) x8 (x18) x9 x10 x11 x12 x13) ∗ owns (c : Thread nD τ) arg15 fullShare x15 ∗ owns (c : Thread nD τ) arg16 fullShare (x16) ∗ owns (c : Thread nD τ) arg17 fullShare (VecWindow.put x17 (k0_off1 i) S400x128.size (blkH (rowsH i (x16)) x7 (x19) (rowsS i x15) x6 (rowsC i x6) x8 (x18) x9 x10)) ∗ owns (c : Thread nD τ) arg18 fullShare (x18) ∗ owns (c : Thread nD τ) arg19 fullShare (x19)) -∗ K ⟨⟩))
    ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16; obtain rfl := harg17.eq_unread hf17; obtain rfl := harg18.eq_unread hf18; obtain rfl := harg19.eq_unread hf19
  sl_exec (disch := first | sl_exact hb | sl_exact hi)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; refine (View.read_writes_full _ _ _ _ _).trans ?_
    dsimp only
    exact blkO_eq (congrArg (fun X => VecWindow.window X _ _ _) (harg16.read_unread _)) ((View.readAt_full _ _ _).trans (harg7.read_unread _)) ((View.readAt_full _ _ _).trans (harg19.read_unread _)) (congrArg (fun X => VecWindow.window X _ _ _) (harg15.read_unread _)) ((View.readAt_full _ _ _).trans (harg6.read_unread _)) (congrArg (fun X => VecWindow.window X _ _ _) (harg6.read_unread _)) ((View.readAt_full _ _ _).trans (harg8.read_unread _)) ((View.readAt_full _ _ _).trans (harg18.read_unread _)) ((View.readAt_full _ _ _).trans (harg9.read_unread _)) ((View.readAt_full _ _ _).trans (harg10.read_unread _)) ((View.readAt_full _ _ _).trans (harg11.read_unread _)) ((View.readAt_full _ _ _).trans (harg12.read_unread _)) ((View.readAt_full _ _ _).trans (harg13.read_unread _))
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; refine (View.read_writes_cons_put _ _ _ _ _ rfl).trans ?_
    rw [View.writes_nil, harg17.read_unread]
    refine congrArg (VecWindow.put x17 _ _) ?_
    dsimp only
    exact blkH_eq (congrArg (fun X => VecWindow.window X _ _ _) (harg16.read_unread _)) ((View.readAt_full _ _ _).trans (harg7.read_unread _)) ((View.readAt_full _ _ _).trans (harg19.read_unread _)) (congrArg (fun X => VecWindow.window X _ _ _) (harg15.read_unread _)) ((View.readAt_full _ _ _).trans (harg6.read_unread _)) (congrArg (fun X => VecWindow.window X _ _ _) (harg6.read_unread _)) ((View.readAt_full _ _ _).trans (harg8.read_unread _)) ((View.readAt_full _ _ _).trans (harg18.read_unread _)) ((View.readAt_full _ _ _).trans (harg9.read_unread _)) ((View.readAt_full _ _ _).trans (harg10.read_unread _))
  isplitl [H18]
  · iexists _; isplitr; swap; · iexact H18
    ipureintro; exact harg18.read_unread _
  · iexists _; isplitr; swap; · iexact H19
    ipureintro; exact harg19.read_unread _

set_option maxHeartbeats 2000000 in
/-- The first row block of the first iteration: the features are the embeddings. -/
theorem run_first_row (c : Dev nD) (i : grid0.Coords)
    (arg2 : Memref sig .tc .vmem S2000x128 .f32) (harg2 : arg2.IsWhole) (arg3 : Memref sig .tc .vmem S400x2000 .f32) (harg3 : arg3.IsWhole) (arg4 : Memref sig .tc .vmem S400x2000 .f32) (harg4 : arg4.IsWhole) (arg5 : Memref sig .tc .vmem S400x2000 .f32) (harg5 : arg5.IsWhole) (arg6 : Memref sig .tc .vmem S2000x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S400x1 .f32) (harg13 : arg13.IsWhole) (arg14 : Memref sig .tc .vmem S1x400x1 .f32) (harg14 : arg14.IsWhole) (arg15 : Memref sig .tc .vmem S2000x2000 .f32) (harg15 : arg15.IsWhole) (arg16 : Memref sig .tc .vmem S2000x128 .f32) (harg16 : arg16.IsWhole) (arg17 : Memref sig .tc .vmem S2000x128 .f32) (harg17 : arg17.IsWhole) (arg18 : Memref sig .tc .vmem S2000x128 .f32) (harg18 : arg18.IsWhole) (arg19 : Memref sig .tc .vmem S128x2000 .f32) (harg19 : arg19.IsWhole)
    (hb : condB i) (hi : k0_cond4 i = 1#1) (hi' : condI i) (hj : ¬condJ i)
    (x2 : Vec F S2000x128 .f32) (x3 : Vec F S400x2000 .f32) (x4 : Vec F S400x2000 .f32) (x5 : Vec F S400x2000 .f32) (x6 : Vec F S2000x1 .f32) (x7 : Vec F S128x128 .f32) (x8 : Vec F S1x1 .f32) (x9 : Vec F S1x128x128 .f32) (x10 : Vec F S1x1x128 .f32) (x11 : Vec F S128x1 .f32) (x12 : Vec F S1x1 .f32) (x13 : Vec F S400x1 .f32) (x15 : Vec F S2000x2000 .f32) (x17 : Vec F S2000x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ (∃ d, owns (c : Thread nD τ) arg16 fullShare d) ∗ owns (c : Thread nD τ) arg17 fullShare x17 ∗ (∃ d, owns (c : Thread nD τ) arg18 fullShare d) ∗ (∃ d, owns (c : Thread nD τ) arg19 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (blkO (rowsH i (k0_pay4 x2)) x7 (k0_pay7 (k0_pay4 x2)) (k0_pay8 x3 x4 x5) x6 (rowsC i x6) x8 (k0_pay6 x6 (k0_pay4 x2)) x9 x10 x11 x12 x13) ∗ owns (c : Thread nD τ) arg15 fullShare (VecWindow.put x15 (k0_off2 i) S400x2000.size (k0_pay8 x3 x4 x5)) ∗ owns (c : Thread nD τ) arg16 fullShare (k0_pay4 x2) ∗ owns (c : Thread nD τ) arg17 fullShare (VecWindow.put x17 (k0_off1 i) S400x128.size (blkH (rowsH i (k0_pay4 x2)) x7 (k0_pay7 (k0_pay4 x2)) (k0_pay8 x3 x4 x5) x6 (rowsC i x6) x8 (k0_pay6 x6 (k0_pay4 x2)) x9 x10)) ∗ owns (c : Thread nD τ) arg18 fullShare (k0_pay6 x6 (k0_pay4 x2)) ∗ owns (c : Thread nD τ) arg19 fullShare (k0_pay7 (k0_pay4 x2))) -∗ K ⟨⟩))
    ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%f17, %hf17, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg17.eq_unread hf17
  sl_exec (disch := first | sl_exact hb | sl_exact hi | sl_exact hi' | sl_exact hj)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; refine (View.read_writes_full _ _ _ _ _).trans ?_
    dsimp only
    exact blkO_eq (congrArg (fun X => VecWindow.window X _ _ _) ((View.read_writes_full _ _ _ _ _).trans (congrArg k0_pay4 ((View.readAt_full _ _ _).trans (harg2.read_unread _))))) ((View.readAt_full _ _ _).trans (harg7.read_unread _)) ((View.readCov_full _ _ _ _ _).trans (congrArg k0_pay7 ((View.readCov_full _ _ _ _ _).trans (congrArg k0_pay4 ((View.readAt_full _ _ _).trans (harg2.read_unread _)))))) ((readCov_same _ _ _).trans (congr (congrArg₂ k0_pay8 ((View.readAt_full _ _ _).trans (harg3.read_unread _)) ((View.readAt_full _ _ _).trans (harg4.read_unread _))) ((View.readAt_full _ _ _).trans (harg5.read_unread _)))) ((View.readAt_full _ _ _).trans (harg6.read_unread _)) (congrArg (fun X => VecWindow.window X _ _ _) (harg6.read_unread _)) ((View.readAt_full _ _ _).trans (harg8.read_unread _)) ((View.readCov_full _ _ _ _ _).trans (congrArg₂ k0_pay6 ((View.readAt_full _ _ _).trans (harg6.read_unread _)) ((View.readCov_full _ _ _ _ _).trans (congrArg k0_pay4 ((View.readAt_full _ _ _).trans (harg2.read_unread _)))))) ((View.readAt_full _ _ _).trans (harg9.read_unread _)) ((View.readAt_full _ _ _).trans (harg10.read_unread _)) ((View.readAt_full _ _ _).trans (harg11.read_unread _)) ((View.readAt_full _ _ _).trans (harg12.read_unread _)) ((View.readAt_full _ _ _).trans (harg13.read_unread _))
  isplitl [H15]
  · iexists _; isplitr; swap; · iexact H15
    ipureintro; refine (View.read_writes_cons_put _ _ _ _ _ rfl).trans ?_
    rw [View.writes_nil, harg15.read_unread]
    exact congrArg (VecWindow.put x15 _ _) (congr (congrArg₂ k0_pay8 ((View.readAt_full _ _ _).trans (harg3.read_unread _)) ((View.readAt_full _ _ _).trans (harg4.read_unread _))) ((View.readAt_full _ _ _).trans (harg5.read_unread _)))
  isplitl [H16]
  · iexists _; isplitr; swap; · iexact H16
    ipureintro; exact (View.read_writes_full _ _ _ _ _).trans (congrArg k0_pay4 ((View.readAt_full _ _ _).trans (harg2.read_unread _)))
  isplitl [H17]
  · iexists _; isplitr; swap; · iexact H17
    ipureintro; refine (View.read_writes_cons_put _ _ _ _ _ rfl).trans ?_
    rw [View.writes_nil, harg17.read_unread]
    refine congrArg (VecWindow.put x17 _ _) ?_
    dsimp only
    exact blkH_eq (congrArg (fun X => VecWindow.window X _ _ _) ((View.read_writes_full _ _ _ _ _).trans (congrArg k0_pay4 ((View.readAt_full _ _ _).trans (harg2.read_unread _))))) ((View.readAt_full _ _ _).trans (harg7.read_unread _)) ((View.readCov_full _ _ _ _ _).trans (congrArg k0_pay7 ((View.readCov_full _ _ _ _ _).trans (congrArg k0_pay4 ((View.readAt_full _ _ _).trans (harg2.read_unread _)))))) ((readCov_same _ _ _).trans (congr (congrArg₂ k0_pay8 ((View.readAt_full _ _ _).trans (harg3.read_unread _)) ((View.readAt_full _ _ _).trans (harg4.read_unread _))) ((View.readAt_full _ _ _).trans (harg5.read_unread _)))) ((View.readAt_full _ _ _).trans (harg6.read_unread _)) (congrArg (fun X => VecWindow.window X _ _ _) (harg6.read_unread _)) ((View.readAt_full _ _ _).trans (harg8.read_unread _)) ((View.readCov_full _ _ _ _ _).trans (congrArg₂ k0_pay6 ((View.readAt_full _ _ _).trans (harg6.read_unread _)) ((View.readCov_full _ _ _ _ _).trans (congrArg k0_pay4 ((View.readAt_full _ _ _).trans (harg2.read_unread _)))))) ((View.readAt_full _ _ _).trans (harg9.read_unread _)) ((View.readAt_full _ _ _).trans (harg10.read_unread _))
  isplitl [H18]
  · iexists _; isplitr; swap; · iexact H18
    ipureintro; exact (View.read_writes_full _ _ _ _ _).trans (congrArg₂ k0_pay6 ((View.readAt_full _ _ _).trans (harg6.read_unread _)) ((View.readCov_full _ _ _ _ _).trans (congrArg k0_pay4 ((View.readAt_full _ _ _).trans (harg2.read_unread _)))))
  · iexists _; isplitr; swap; · iexact H19
    ipureintro; exact (View.read_writes_full _ _ _ _ _).trans (congrArg k0_pay7 ((View.readCov_full _ _ _ _ _).trans (congrArg k0_pay4 ((View.readAt_full _ _ _).trans (harg2.read_unread _)))))

set_option maxHeartbeats 2000000 in
/-- The first row block of a later iteration: the features are those the iteration before left. -/
theorem run_first_row_later (c : Dev nD) (i : grid0.Coords)
    (arg2 : Memref sig .tc .vmem S2000x128 .f32) (harg2 : arg2.IsWhole) (arg3 : Memref sig .tc .vmem S400x2000 .f32) (harg3 : arg3.IsWhole) (arg4 : Memref sig .tc .vmem S400x2000 .f32) (harg4 : arg4.IsWhole) (arg5 : Memref sig .tc .vmem S400x2000 .f32) (harg5 : arg5.IsWhole) (arg6 : Memref sig .tc .vmem S2000x1 .f32) (harg6 : arg6.IsWhole) (arg7 : Memref sig .tc .vmem S128x128 .f32) (harg7 : arg7.IsWhole) (arg8 : Memref sig .tc .vmem S1x1 .f32) (harg8 : arg8.IsWhole) (arg9 : Memref sig .tc .vmem S1x128x128 .f32) (harg9 : arg9.IsWhole) (arg10 : Memref sig .tc .vmem S1x1x128 .f32) (harg10 : arg10.IsWhole) (arg11 : Memref sig .tc .vmem S128x1 .f32) (harg11 : arg11.IsWhole) (arg12 : Memref sig .tc .vmem S1x1 .f32) (harg12 : arg12.IsWhole) (arg13 : Memref sig .tc .vmem S400x1 .f32) (harg13 : arg13.IsWhole) (arg14 : Memref sig .tc .vmem S1x400x1 .f32) (harg14 : arg14.IsWhole) (arg15 : Memref sig .tc .vmem S2000x2000 .f32) (harg15 : arg15.IsWhole) (arg16 : Memref sig .tc .vmem S2000x128 .f32) (harg16 : arg16.IsWhole) (arg17 : Memref sig .tc .vmem S2000x128 .f32) (harg17 : arg17.IsWhole) (arg18 : Memref sig .tc .vmem S2000x128 .f32) (harg18 : arg18.IsWhole) (arg19 : Memref sig .tc .vmem S128x2000 .f32) (harg19 : arg19.IsWhole)
    (hb : condB i) (hi : ¬ k0_cond4 i = 1#1) (hi' : ¬condI i) (hj : condJ i)
    (x2 : Vec F S2000x128 .f32) (x3 : Vec F S400x2000 .f32) (x4 : Vec F S400x2000 .f32) (x5 : Vec F S400x2000 .f32) (x6 : Vec F S2000x1 .f32) (x7 : Vec F S128x128 .f32) (x8 : Vec F S1x1 .f32) (x9 : Vec F S1x128x128 .f32) (x10 : Vec F S1x1x128 .f32) (x11 : Vec F S128x1 .f32) (x12 : Vec F S1x1 .f32) (x13 : Vec F S400x1 .f32) (x15 : Vec F S2000x2000 .f32) (x17 : Vec F S2000x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ (∃ d, owns (c : Thread nD τ) arg16 fullShare d) ∗ owns (c : Thread nD τ) arg17 fullShare x17 ∗ (∃ d, owns (c : Thread nD τ) arg18 fullShare d) ∗ (∃ d, owns (c : Thread nD τ) arg19 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (blkO (rowsH i (k0_pay5 x17)) x7 (k0_pay7 (k0_pay5 x17)) (rowsS i x15) x6 (rowsC i x6) x8 (k0_pay6 x6 (k0_pay5 x17)) x9 x10 x11 x12 x13) ∗ owns (c : Thread nD τ) arg15 fullShare x15 ∗ owns (c : Thread nD τ) arg16 fullShare (k0_pay5 x17) ∗ owns (c : Thread nD τ) arg17 fullShare (VecWindow.put x17 (k0_off1 i) S400x128.size (blkH (rowsH i (k0_pay5 x17)) x7 (k0_pay7 (k0_pay5 x17)) (rowsS i x15) x6 (rowsC i x6) x8 (k0_pay6 x6 (k0_pay5 x17)) x9 x10)) ∗ owns (c : Thread nD τ) arg18 fullShare (k0_pay6 x6 (k0_pay5 x17)) ∗ owns (c : Thread nD τ) arg19 fullShare (k0_pay7 (k0_pay5 x17))) -∗ K ⟨⟩))
    ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%f17, %hf17, H17⟩, ⟨%d18, %f18, -, H18⟩, ⟨%d19, %f19, -, H19⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg17.eq_unread hf17
  sl_exec (disch := first | sl_exact hb | sl_exact hi | sl_exact hi' | sl_exact hj)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; refine (View.read_writes_full _ _ _ _ _).trans ?_
    dsimp only
    exact blkO_eq (congrArg (fun X => VecWindow.window X _ _ _) ((View.read_writes_full _ _ _ _ _).trans (congrArg k0_pay5 ((View.readAt_full _ _ _).trans (harg17.read_unread _))))) ((View.readAt_full _ _ _).trans (harg7.read_unread _)) ((View.readCov_full _ _ _ _ _).trans (congrArg k0_pay7 ((View.readCov_full _ _ _ _ _).trans (congrArg k0_pay5 ((View.readAt_full _ _ _).trans (harg17.read_unread _)))))) (congrArg (fun X => VecWindow.window X _ _ _) (harg15.read_unread _)) ((View.readAt_full _ _ _).trans (harg6.read_unread _)) (congrArg (fun X => VecWindow.window X _ _ _) (harg6.read_unread _)) ((View.readAt_full _ _ _).trans (harg8.read_unread _)) ((View.readCov_full _ _ _ _ _).trans (congrArg₂ k0_pay6 ((View.readAt_full _ _ _).trans (harg6.read_unread _)) ((View.readCov_full _ _ _ _ _).trans (congrArg k0_pay5 ((View.readAt_full _ _ _).trans (harg17.read_unread _)))))) ((View.readAt_full _ _ _).trans (harg9.read_unread _)) ((View.readAt_full _ _ _).trans (harg10.read_unread _)) ((View.readAt_full _ _ _).trans (harg11.read_unread _)) ((View.readAt_full _ _ _).trans (harg12.read_unread _)) ((View.readAt_full _ _ _).trans (harg13.read_unread _))
  isplitl [H15]
  · iexists _; isplitr; swap; · iexact H15
    ipureintro; exact harg15.read_unread _
  isplitl [H16]
  · iexists _; isplitr; swap; · iexact H16
    ipureintro; exact (View.read_writes_full _ _ _ _ _).trans (congrArg k0_pay5 ((View.readAt_full _ _ _).trans (harg17.read_unread _)))
  isplitl [H17]
  · iexists _; isplitr; swap; · iexact H17
    ipureintro; refine (View.read_writes_cons_put _ _ _ _ _ rfl).trans ?_
    rw [View.writes_nil, harg17.read_unread]
    refine congrArg (VecWindow.put x17 _ _) ?_
    dsimp only
    exact blkH_eq (congrArg (fun X => VecWindow.window X _ _ _) ((View.read_writes_full _ _ _ _ _).trans (congrArg k0_pay5 ((View.readAt_full _ _ _).trans (harg17.read_unread _))))) ((View.readAt_full _ _ _).trans (harg7.read_unread _)) ((View.readCov_full _ _ _ _ _).trans (congrArg k0_pay7 ((View.readCov_full _ _ _ _ _).trans (congrArg k0_pay5 ((View.readAt_full _ _ _).trans (harg17.read_unread _)))))) (congrArg (fun X => VecWindow.window X _ _ _) (harg15.read_unread _)) ((View.readAt_full _ _ _).trans (harg6.read_unread _)) (congrArg (fun X => VecWindow.window X _ _ _) (harg6.read_unread _)) ((View.readAt_full _ _ _).trans (harg8.read_unread _)) ((View.readCov_full _ _ _ _ _).trans (congrArg₂ k0_pay6 ((View.readAt_full _ _ _).trans (harg6.read_unread _)) ((View.readCov_full _ _ _ _ _).trans (congrArg k0_pay5 ((View.readAt_full _ _ _).trans (harg17.read_unread _)))))) ((View.readAt_full _ _ _).trans (harg9.read_unread _)) ((View.readAt_full _ _ _).trans (harg10.read_unread _))
  isplitl [H18]
  · iexists _; isplitr; swap; · iexact H18
    ipureintro; exact (View.read_writes_full _ _ _ _ _).trans (congrArg₂ k0_pay6 ((View.readAt_full _ _ _).trans (harg6.read_unread _)) ((View.readCov_full _ _ _ _ _).trans (congrArg k0_pay5 ((View.readAt_full _ _ _).trans (harg17.read_unread _)))))
  · iexists _; isplitr; swap; · iexact H19
    ipureintro; exact (View.read_writes_full _ _ _ _ _).trans (congrArg k0_pay7 ((View.readCov_full _ _ _ _ _).trans (congrArg k0_pay5 ((View.readAt_full _ _ _).trans (harg17.read_unread _)))))

end Cert.KernelIdeal.Gen

end
-- ==== Proof.KI.Inv.lean ====
/- What the grid's points leave behind them, as functions of the argument arrays: the scaled adjacency sum, the features
   of each iteration, and the output blocks; and the invariant the scratch buffers meet between points. -/
module

public import proofs.«01_k».proof.Proof.Gen.KernelIdeal.Frame
public import proofs.«01_k».proof.Proof.KI.Runs
public import Idealize.ShloMosaic.Lib.ValueIdxCore
public import Idealize.ShloMosaic.Lib.ValueIdxCoords

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

variable (m : (ℓ : Loc nD τ sig) → Buf (Elt F) ℓ)

/-! ## Row offsets -/

/-- The row offset at a point is 400 times its row block; so for each of the four offsets the body computes. -/
theorem off1_eq (t : Fin cfg0.N) : k0_off1 (grid0.coords t) = ![400 * (t.val % 5), 0] := by
  have e := coord_b t
  unfold k0_off1; simp only [e]
  have h : t.val % 5 < 5 := Nat.mod_lt _ (by decide)
  generalize t.val % 5 = b at h ⊢
  interval_cases b <;> rfl
/-- The same for the second offset. -/
theorem off2_eq (t : Fin cfg0.N) : k0_off2 (grid0.coords t) = ![400 * (t.val % 5), 0] := off1_eq t
/-- The same for the third offset. -/
theorem off3_eq (t : Fin cfg0.N) : k0_off3 (grid0.coords t) = ![400 * (t.val % 5), 0] := off1_eq t
/-- The same for the fourth offset. -/
theorem off4_eq (t : Fin cfg0.N) : k0_off4 (grid0.coords t) = ![400 * (t.val % 5), 0] := off1_eq t

/-- A row block put at row `400 b`, read in a row of that block. -/
theorem put_in {e : EltTy} {C : ℕ} (x : (⟨2, ![2000, C]⟩ : Shape).Idx → Elt F e) {off : Fin 2 → ℕ} {b : ℕ} (ho : off = ![400 * b, 0])
    (w : (⟨2, ![400, C]⟩ : Shape).Idx → Elt F e) (r : Fin 2000) (k : Fin C) (h : r.val / 400 = b) :
    VecWindow.put x off (⟨2, ![400, C]⟩ : Shape).size w (ix2 r k) = w (ix2 ⟨r.val % 400, Nat.mod_lt _ (by decide)⟩ k) := by
  subst ho
  have hm : ∀ a : Fin 2, (![400 * b, 0] : Fin 2 → ℕ) a ≤ (ix2 r k a).val ∧ (ix2 r k a).val < (![400 * b, 0] : Fin 2 → ℕ) a + (![400, C] : Fin 2 → ℕ) a := fun a =>
    match a with
    | 0 => ⟨show 400 * b ≤ r.val by omega, show r.val < 400 * b + 400 by omega⟩
    | 1 => ⟨Nat.zero_le _, by show k.val < 0 + C; have := k.isLt; omega⟩
  unfold VecWindow.put
  refine (dif_pos hm).trans (congrArg w (funext fun a => Fin.ext ?_))
  match a with
  | 0 => show r.val - 400 * b = r.val % 400; omega
  | 1 => show k.val - 0 = k.val; omega

/-- The same, read in a row of another block: what was there before. -/
theorem put_off {e : EltTy} {C : ℕ} (x : (⟨2, ![2000, C]⟩ : Shape).Idx → Elt F e) {off : Fin 2 → ℕ} {b : ℕ} (ho : off = ![400 * b, 0])
    (w : (⟨2, ![400, C]⟩ : Shape).Idx → Elt F e) (r : Fin 2000) (k : Fin C) (h : r.val / 400 ≠ b) :
    VecWindow.put x off (⟨2, ![400, C]⟩ : Shape).size w (ix2 r k) = x (ix2 r k) := by
  subst ho
  unfold VecWindow.put
  refine dif_neg fun hm => ?_
  have h0 : 400 * b ≤ r.val ∧ r.val < 400 * b + 400 := hm 0
  omega

/-- A row block at row `400 b` is the array at those rows. -/
theorem window_apply {e : EltTy} {C : ℕ} (x : (⟨2, ![2000, C]⟩ : Shape).Idx → Elt F e) {off : Fin 2 → ℕ} {b : ℕ} (ho : off = ![400 * b, 0])
    (inb : ∀ a, off a + (⟨2, ![400, C]⟩ : Shape).size a ≤ (⟨2, ![2000, C]⟩ : Shape).size a) (r : Fin 400) (k : Fin C) (hb : 400 * b + r.val < 2000) :
    VecWindow.window x off (⟨2, ![400, C]⟩ : Shape).size inb (ix2 r k) = x (ix2 ⟨400 * b + r.val, hb⟩ k) := by
  subst ho
  refine congrArg x (funext fun a => Fin.ext ?_)
  match a with
  | 0 => show 400 * b + 1 * r.val = 400 * b + r.val; omega
  | 1 => show 0 + 1 * k.val = k.val; omega

/-! ## The windows that do not move -/

/-- The point of iteration `n / 5` and row block `b`: a row's block in the iteration that starts at `5 k`. -/
def pt (k : Fin 2) (r : Fin 2000) : Fin cfg0.N := ⟨5 * k.val + r.val / 400, by
  have : cfg0.N = 10 := N_0
  have := r.isLt; have := k.isLt; omega⟩

/-- The first point. -/
def pt0 : Fin cfg0.N := ⟨0, by have : cfg0.N = 10 := N_0; omega⟩

/-- The candidate mask's block is the same at every point. -/
theorem iblk_cm (c : Dev nD) (t : Fin cfg0.N) : (iblk m c 4 t : Vec F S2000x1 .f32) = iblk m c 4 pt0 := rfl

/-! ## What the points leave -/

/-- The candidate mask, as the points find it. -/
def cmA (c : Dev nD) : Vec F S2000x1 .f32 := iblk m c 4 pt0

/-- The scaled adjacency sum: each row block as its point of the first iteration stores it. -/
def sArr (c : Dev nD) : Vec F S2000x2000 .f32 := fun y =>
  k0_pay8 (iblk m c 1 (pt 0 (y 0))) (iblk m c 2 (pt 0 (y 0))) (iblk m c 3 (pt 0 (y 0)))
    (ix2 ⟨(y 0).val % 400, Nat.mod_lt _ (by decide)⟩ (y 1))

/-- The row block of the next features that the point `t` computes from the features `H`. -/
def hBlk (c : Dev nD) (t : Fin cfg0.N) (H : Vec F S2000x128 .f32) : Vec F S400x128 .f32 :=
  blkH (rowsH (grid0.coords t) H) (iblk m c 5 t) (k0_pay7 H) (rowsS (grid0.coords t) (sArr m c)) (cmA m c)
    (rowsC (grid0.coords t) (cmA m c)) (iblk m c 6 t) (k0_pay6 (cmA m c) H) (iblk m c 7 t) (iblk m c 8 t)

/-- The output block that the point `t` computes from them. -/
def oBlk (c : Dev nD) (t : Fin cfg0.N) (H : Vec F S2000x128 .f32) : Vec F S1x400x1 .f32 :=
  blkO (rowsH (grid0.coords t) H) (iblk m c 5 t) (k0_pay7 H) (rowsS (grid0.coords t) (sArr m c)) (cmA m c)
    (rowsC (grid0.coords t) (cmA m c)) (iblk m c 6 t) (k0_pay6 (cmA m c) H) (iblk m c 7 t) (iblk m c 8 t)
    (iblk m c 9 t) (iblk m c 10 t) (iblk m c 11 t)

/-- The features of the first iteration: the embeddings. -/
def feat0 (c : Dev nD) : Vec F S2000x128 .f32 := k0_pay4 (iblk m c 0 pt0)
/-- What the first iteration leaves for the second. -/
def next1 (c : Dev nD) : Vec F S2000x128 .f32 := fun y =>
  hBlk m c (pt 0 (y 0)) (feat0 m c) (ix2 ⟨(y 0).val % 400, Nat.mod_lt _ (by decide)⟩ (y 1))
/-- The features of the iteration that position `n` is in. -/
def feat (c : Dev nD) (n : ℕ) : Vec F S2000x128 .f32 := if n < 5 then feat0 m c else k0_pay5 (next1 m c)

/-- What the scratch buffers hold before position `n`: the rows of the adjacency sum stored so far, the rows of the next
    features computed so far in the first iteration, and — inside an iteration — its features, masked and transposed too. -/
structure ScratchInv (c : Dev nD) (n : ℕ) (xS : Vec F S2000x2000 .f32) (xH xN xM : Vec F S2000x128 .f32) (xT : Vec F S128x2000 .f32) : Prop where
  s : ∀ (r : Fin 2000) (k : Fin 2000), r.val < 400 * n → xS (ix2 r k) = sArr m c (ix2 r k)
  nx : n ≤ 5 → ∀ (r : Fin 2000) (k : Fin 128), r.val < 400 * n → xN (ix2 r k) = next1 m c (ix2 r k)
  h : n % 5 ≠ 0 → xH = feat m c n
  msk : n % 5 ≠ 0 → xM = k0_pay6 (cmA m c) (feat m c n)
  tr : n % 5 ≠ 0 → xT = k0_pay7 (feat m c n)

/-- Before the first point nothing is asked of them. -/
theorem inv_zero (c : Dev nD) (xS : Vec F S2000x2000 .f32) (xH xN xM : Vec F S2000x128 .f32) (xT : Vec F S128x2000 .f32) :
    ScratchInv m c 0 xS xH xN xM xT :=
  ⟨fun r k h => absurd h (by omega), fun _ r k h => absurd h (by omega), fun h => absurd rfl h, fun h => absurd rfl h, fun h => absurd rfl h⟩

/-- In the first iteration the adjacency block the point stores is the array's. -/
theorem pay8_eq (c : Dev nD) (t : Fin cfg0.N) (ht : t.val < 5) :
    k0_pay8 (iblk m c 1 t) (iblk m c 2 t) (iblk m c 3 t) = rowsS (grid0.coords t) (sArr m c) := by
  funext y
  obtain ⟨r, k, rfl⟩ : ∃ (r : Fin 400) (k : Fin 2000), y = ix2 r k := ⟨y 0, y 1, eq_ix2 y⟩
  have hb : t.val % 5 = t.val := by omega
  have hr := r.isLt
  refine Eq.trans ?_ (window_apply (sArr m c) (off3_eq t) (k0_off3_inb _) r k (by omega)).symm
  unfold sArr
  have e1 : pt 0 (⟨400 * (t.val % 5) + r.val, by omega⟩ : Fin 2000) = t := Fin.ext (by show 5 * 0 + (400 * (t.val % 5) + r.val) / 400 = t.val; omega)
  have e2 : (⟨(400 * (t.val % 5) + r.val) % 400, Nat.mod_lt _ (by decide)⟩ : Fin 400) = r := Fin.ext (by show (400 * (t.val % 5) + r.val) % 400 = r.val; omega)
  show _ = k0_pay8 (iblk m c 1 (pt 0 (⟨400 * (t.val % 5) + r.val, by omega⟩ : Fin 2000))) (iblk m c 2 (pt 0 (⟨400 * (t.val % 5) + r.val, by omega⟩ : Fin 2000)))
    (iblk m c 3 (pt 0 (⟨400 * (t.val % 5) + r.val, by omega⟩ : Fin 2000))) (ix2 (⟨(400 * (t.val % 5) + r.val) % 400, Nat.mod_lt _ (by decide)⟩ : Fin 400) k)
  rw [e1, e2]

/-- Once the whole adjacency sum is stored, the point's rows of it are the array's. -/
theorem rowsS_eq (c : Dev nD) (t : Fin cfg0.N) (ht : ¬ t.val < 5) {xS : Vec F S2000x2000 .f32} {xH xN xM : Vec F S2000x128 .f32}
    {xT : Vec F S128x2000 .f32} (hI : ScratchInv m c t.val xS xH xN xM xT) : rowsS (grid0.coords t) xS = rowsS (grid0.coords t) (sArr m c) := by
  have e : xS = sArr m c := by
    funext y; rw [eq_ix2 y]
    exact hI.s _ _ (by have := (y 0).isLt; have h2 : (y 0).val < 2000 := this; omega)
  rw [e]

/-- A later row block of the first iteration. -/
theorem inv_row (c : Dev nD) (t : Fin cfg0.N) (ht : t.val < 5) {xS : Vec F S2000x2000 .f32} {xH xN xM xM' xH' : Vec F S2000x128 .f32}
    {xT xT' : Vec F S128x2000 .f32} (hI : ScratchInv m c t.val xS xH' xN xM' xT') (hH : xH = feat0 m c) (hM : xM = k0_pay6 (cmA m c) (feat0 m c))
    (hT : xT = k0_pay7 (feat0 m c)) :
    ScratchInv m c (t.val + 1)
      (VecWindow.put xS (k0_off2 (grid0.coords t)) S400x2000.size (k0_pay8 (iblk m c 1 t) (iblk m c 2 t) (iblk m c 3 t)))
      xH
      (VecWindow.put xN (k0_off1 (grid0.coords t)) S400x128.size
        (blkH (rowsH (grid0.coords t) xH) (iblk m c 5 t) xT (k0_pay8 (iblk m c 1 t) (iblk m c 2 t) (iblk m c 3 t)) (iblk m c 4 t)
          (rowsC (grid0.coords t) (iblk m c 4 t)) (iblk m c 6 t) xM (iblk m c 7 t) (iblk m c 8 t)))
      xM xT := by
  have hb : t.val % 5 = t.val := by omega
  have hpt : ∀ r : Fin 2000, r.val / 400 = t.val % 5 → pt 0 r = t := fun r h => Fin.ext (by show 5 * 0 + r.val / 400 = t.val; omega)
  subst hH hM hT
  refine ⟨fun r k h => ?_, fun _ r k h => ?_, fun h => ?_, fun h => ?_, fun h => ?_⟩
  · by_cases hr : r.val / 400 = t.val % 5
    · refine (put_in xS (off2_eq t) _ r k hr).trans ?_
      unfold sArr
      show _ = k0_pay8 (iblk m c 1 (pt 0 r)) (iblk m c 2 (pt 0 r)) (iblk m c 3 (pt 0 r)) (ix2 ⟨r.val % 400, _⟩ k)
      rw [hpt r hr]
    · refine (put_off xS (off2_eq t) _ r k hr).trans (hI.s r k ?_)
      omega
  · by_cases hr : r.val / 400 = t.val % 5
    · refine (put_in xN (off1_eq t) _ r k hr).trans ?_
      unfold next1
      show _ = hBlk m c (pt 0 r) (feat0 m c) (ix2 ⟨r.val % 400, _⟩ k)
      rw [hpt r hr, pay8_eq m c t ht]
      rfl
    · refine (put_off xN (off1_eq t) _ r k hr).trans (hI.nx (by omega) r k ?_)
      omega
  · unfold feat; rw [if_pos (by omega)]
  · unfold feat; rw [if_pos (by omega)]
  · unfold feat; rw [if_pos (by omega)]

/-- A point of the second iteration. -/
theorem inv_row_later (c : Dev nD) (t : Fin cfg0.N) (ht : ¬ t.val < 5) {xS : Vec F S2000x2000 .f32} {xH xN xN' xM xM' xH' : Vec F S2000x128 .f32}
    {xT xT' : Vec F S128x2000 .f32} (hI : ScratchInv m c t.val xS xH' xN xM' xT') (hH : xH = k0_pay5 (next1 m c))
    (hM : xM = k0_pay6 (cmA m c) (k0_pay5 (next1 m c))) (hT : xT = k0_pay7 (k0_pay5 (next1 m c))) :
    ScratchInv m c (t.val + 1) xS xH xN' xM xT := by
  subst hH hM hT
  refine ⟨fun r k _ => hI.s r k ?_, fun h => absurd h (by omega), fun h => ?_, fun h => ?_, fun h => ?_⟩
  · have := r.isLt; omega
  · unfold feat; rw [if_neg (by omega)]
  · unfold feat; rw [if_neg (by omega)]
  · unfold feat; rw [if_neg (by omega)]

/-- At the second iteration's first point the next features are all there. -/
theorem nx_all (c : Dev nD) {xS : Vec F S2000x2000 .f32} {xH xN xM : Vec F S2000x128 .f32} {xT : Vec F S128x2000 .f32} {n : ℕ} (hn : n = 5)
    (hI : ScratchInv m c n xS xH xN xM xT) : xN = next1 m c := by
  funext y; rw [eq_ix2 y]
  exact hI.nx (by omega) _ _ (by have h2 : (y 0).val < 2000 := (y 0).isLt; omega)

end Cert.KernelIdeal.Gen

end
-- ==== Proof.KI.Body.lean ====
/- The region's run: the proof data of the pipeline (each point's output block, the scratch buffers' invariant), the body
   at every point, and the launch; with it the frame. -/
module

public import proofs.«01_k».proof.Proof.KI.Inv
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant between points: the five scratch buffers at contents that meet `ScratchInv`, and the generator register. -/
def PhiS (c : Dev nD) (n : ℕ) : sProp 𝕄 :=
  iprop(∃ xS xH xN xM xT, ⌜ScratchInv m c n xS xH xN xM xT⌝ ∗ owns (c : Thread nD τ) scS fullShare xS ∗ owns (c : Thread nD τ) scH fullShare xH
    ∗ owns (c : Thread nD τ) scN fullShare xN ∗ owns (c : Thread nD τ) scM fullShare xM ∗ owns (c : Thread nD τ) scT fullShare xT
    ∗ (∃ r, prngReg c r))

/-- The pipeline's proof data: the arrays as the region finds them; after point `t` each input's buffer at its block and
    the output's at the block computed from the iteration's features. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => oBlk m c t (feat m c t.val)
  Φ t := PhiS m c t.val
  q _ := fullShare
  owed _ := 0

/-- Each window's array holds, on entry, what the region finds in it. -/
theorem A_eq (c : Dev nD) (w : Fin cfg0.W) : (dats m 0 c).A w = V m c (Pipeline.arrRef spec0 w) := by
  dsimp only [dats]

/-- Window 0's staging buffer after the body at a point. -/
theorem after0_0 (c : Dev nD) (t : Fin cfg0.N) : (dats m 0 c).after 0 t = iblk m c 0 t := by dsimp only [dats]
/-- Window 1's staging buffer after the body at a point. -/
theorem after0_1 (c : Dev nD) (t : Fin cfg0.N) : (dats m 0 c).after 1 t = iblk m c 1 t := by dsimp only [dats]
/-- Window 2's staging buffer after the body at a point. -/
theorem after0_2 (c : Dev nD) (t : Fin cfg0.N) : (dats m 0 c).after 2 t = iblk m c 2 t := by dsimp only [dats]
/-- Window 3's staging buffer after the body at a point. -/
theorem after0_3 (c : Dev nD) (t : Fin cfg0.N) : (dats m 0 c).after 3 t = iblk m c 3 t := by dsimp only [dats]
/-- Window 4's staging buffer after the body at a point. -/
theorem after0_4 (c : Dev nD) (t : Fin cfg0.N) : (dats m 0 c).after 4 t = iblk m c 4 t := by dsimp only [dats]
/-- Window 5's staging buffer after the body at a point. -/
theorem after0_5 (c : Dev nD) (t : Fin cfg0.N) : (dats m 0 c).after 5 t = iblk m c 5 t := by dsimp only [dats]
/-- Window 6's staging buffer after the body at a point. -/
theorem after0_6 (c : Dev nD) (t : Fin cfg0.N) : (dats m 0 c).after 6 t = iblk m c 6 t := by dsimp only [dats]
/-- Window 7's staging buffer after the body at a point. -/
theorem after0_7 (c : Dev nD) (t : Fin cfg0.N) : (dats m 0 c).after 7 t = iblk m c 7 t := by dsimp only [dats]
/-- Window 8's staging buffer after the body at a point. -/
theorem after0_8 (c : Dev nD) (t : Fin cfg0.N) : (dats m 0 c).after 8 t = iblk m c 8 t := by dsimp only [dats]
/-- Window 9's staging buffer after the body at a point. -/
theorem after0_9 (c : Dev nD) (t : Fin cfg0.N) : (dats m 0 c).after 9 t = iblk m c 9 t := by dsimp only [dats]
/-- Window 10's staging buffer after the body at a point. -/
theorem after0_10 (c : Dev nD) (t : Fin cfg0.N) : (dats m 0 c).after 10 t = iblk m c 10 t := by dsimp only [dats]
/-- Window 11's staging buffer after the body at a point. -/
theorem after0_11 (c : Dev nD) (t : Fin cfg0.N) : (dats m 0 c).after 11 t = iblk m c 11 t := by dsimp only [dats]
/-- Window 12's staging buffer after the body at a point. -/
theorem after0_12 (c : Dev nD) (t : Fin cfg0.N) : (dats m 0 c).after 12 t = oBlk m c t (feat m c t.val) := by dsimp only [dats]

/-- Window 0's staging buffer before the body at a point holds the block of its array. -/
theorem before0_0 (c : Dev nD) (t : Fin cfg0.N) (d) : (dats m 0 c).before 0 t d = iblk m c 0 t :=
  before0_0_of m (dats m 0 c) (A_eq m c 0) (after0_0 m c) t d
/-- Window 1's staging buffer before the body at a point holds the block of its array. -/
theorem before0_1 (c : Dev nD) (t : Fin cfg0.N) (d) : (dats m 0 c).before 1 t d = iblk m c 1 t :=
  before0_1_of m (dats m 0 c) (A_eq m c 1) (after0_1 m c) t d
/-- Window 2's staging buffer before the body at a point holds the block of its array. -/
theorem before0_2 (c : Dev nD) (t : Fin cfg0.N) (d) : (dats m 0 c).before 2 t d = iblk m c 2 t :=
  before0_2_of m (dats m 0 c) (A_eq m c 2) (after0_2 m c) t d
/-- Window 3's staging buffer before the body at a point holds the block of its array. -/
theorem before0_3 (c : Dev nD) (t : Fin cfg0.N) (d) : (dats m 0 c).before 3 t d = iblk m c 3 t :=
  before0_3_of m (dats m 0 c) (A_eq m c 3) (after0_3 m c) t d
/-- Window 4's staging buffer before the body at a point holds the block of its array. -/
theorem before0_4 (c : Dev nD) (t : Fin cfg0.N) (d) : (dats m 0 c).before 4 t d = iblk m c 4 t :=
  before0_4_of m (dats m 0 c) (A_eq m c 4) (after0_4 m c) t d
/-- Window 5's staging buffer before the body at a point holds the block of its array. -/
theorem before0_5 (c : Dev nD) (t : Fin cfg0.N) (d) : (dats m 0 c).before 5 t d = iblk m c 5 t :=
  before0_5_of m (dats m 0 c) (A_eq m c 5) (after0_5 m c) t d
/-- Window 6's staging buffer before the body at a point holds the block of its array. -/
theorem before0_6 (c : Dev nD) (t : Fin cfg0.N) (d) : (dats m 0 c).before 6 t d = iblk m c 6 t :=
  before0_6_of m (dats m 0 c) (A_eq m c 6) (after0_6 m c) t d
/-- Window 7's staging buffer before the body at a point holds the block of its array. -/
theorem before0_7 (c : Dev nD) (t : Fin cfg0.N) (d) : (dats m 0 c).before 7 t d = iblk m c 7 t :=
  before0_7_of m (dats m 0 c) (A_eq m c 7) (after0_7 m c) t d
/-- Window 8's staging buffer before the body at a point holds the block of its array. -/
theorem before0_8 (c : Dev nD) (t : Fin cfg0.N) (d) : (dats m 0 c).before 8 t d = iblk m c 8 t :=
  before0_8_of m (dats m 0 c) (A_eq m c 8) (after0_8 m c) t d
/-- Window 9's staging buffer before the body at a point holds the block of its array. -/
theorem before0_9 (c : Dev nD) (t : Fin cfg0.N) (d) : (dats m 0 c).before 9 t d = iblk m c 9 t :=
  before0_9_of m (dats m 0 c) (A_eq m c 9) (after0_9 m c) t d
/-- Window 10's staging buffer before the body at a point holds the block of its array. -/
theorem before0_10 (c : Dev nD) (t : Fin cfg0.N) (d) : (dats m 0 c).before 10 t d = iblk m c 10 t :=
  before0_10_of m (dats m 0 c) (A_eq m c 10) (after0_10 m c) t d
/-- Window 11's staging buffer before the body at a point holds the block of its array. -/
theorem before0_11 (c : Dev nD) (t : Fin cfg0.N) (d) : (dats m 0 c).before 11 t d = iblk m c 11 t :=
  before0_11_of m (dats m 0 c) (A_eq m c 11) (after0_11 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- The features of the first iteration are the embeddings. -/
theorem feat_lt (c : Dev nD) {n : ℕ} (h : n < 5) : feat m c n = feat0 m c := if_pos h
/-- The features of the second iteration are what the first left. -/
theorem feat_ge (c : Dev nD) {n : ℕ} (h : ¬ n < 5) : feat m c n = k0_pay5 (next1 m c) := if_neg h

set_option maxHeartbeats 3200000 in
/-- The body at any point, case by case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl, after0_0, after0_1, after0_2, after0_3, after0_4, after0_5, after0_6, after0_7, after0_8, after0_9, after0_10, after0_11, after0_12]
  rw [show (dats m 0 c).Φ t.succ = PhiS m c (t.val + 1) from rfl, show (dats m 0 c).Φ t.castSucc = PhiS m c t.val from rfl]
  unfold PhiS
  have hN : t.val < 10 := lt_of_lt_of_eq t.isLt (show cfg0.N = 10 from N_0)
  iintro ⟨⟨%xS, %xH, %xN, %xM, %xT, %hI, XS, XH, XN, XM, XT, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  by_cases hb : t.val % 5 = 0
  · by_cases hi : t.val < 5
    · have h0 : t = pt0 := Fin.ext (by show t.val = 0; omega)
      have hx : k0_pay4 (iblk m c 0 t) = feat0 m c := by rw [h0]; rfl
      iapply (run_first_row c (grid0.coords t) _ _ _ _ _ _ _ _ _ _ _ _ _ _ _ _ _ _ _ _ _ _ _ _ _ _ scS (Memref.isWhole_whole _) scH (Memref.isWhole_whole _) scN (Memref.isWhole_whole _) scM (Memref.isWhole_whole _) scT (Memref.isWhole_whole _) ((condB_iff t).mpr hb) ((condI_iff t).mpr hi) ((condI_iff t).mpr hi) (fun h => (condJ_iff t).mp h hi) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xS xN Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [XS]; · iexact XS
      isplitl [XH]; · iexists _; iexact XH
      isplitl [XN]; · iexact XN
      isplitl [XM]; · iexists _; iexact XM
      isplitl [XT]; · iexists _; iexact XT
      iintro ⟨H0, H1, H2, H3, H4, H5, H6, H7, H8, H9, H10, H11, H12, XS, XH, XN, XM, XT⟩
      isplitl [XS XH XN XM XT Hg]
      · iexists _, _, _, _, _
        isplitr; swap
        · isplitl [XS]; · iexact XS
          isplitl [XH]; · iexact XH
          isplitl [XN]; · iexact XN
          isplitl [XM]; · iexact XM
          isplitl [XT]; · iexact XT
          iexact Hg
        ipureintro; exact inv_row m c t hi hI hx (congrArg (k0_pay6 _) hx) (congrArg k0_pay7 hx)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      rw [hx, pay8_eq m c t hi, feat_lt m c hi]
      iexact H12
    · have h5 : t.val = 5 := by omega
      have hn : xN = next1 m c := nx_all m c h5 hI
      have hx : k0_pay5 xN = k0_pay5 (next1 m c) := congrArg k0_pay5 hn
      iapply (run_first_row_later c (grid0.coords t) _ _ _ _ _ _ _ _ _ _ _ _ _ _ _ _ _ _ _ _ _ _ _ _ _ _ scS (Memref.isWhole_whole _) scH (Memref.isWhole_whole _) scN (Memref.isWhole_whole _) scM (Memref.isWhole_whole _) scT (Memref.isWhole_whole _) ((condB_iff t).mpr hb) (fun h => hi ((condI_iff t).mp h)) (fun h => hi ((condI_iff t).mp h)) ((condJ_iff t).mpr hi) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xS xN Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [XS]; · iexact XS
      isplitl [XH]; · iexists _; iexact XH
      isplitl [XN]; · iexact XN
      isplitl [XM]; · iexists _; iexact XM
      isplitl [XT]; · iexists _; iexact XT
      iintro ⟨H0, H1, H2, H3, H4, H5, H6, H7, H8, H9, H10, H11, H12, XS, XH, XN, XM, XT⟩
      isplitl [XS XH XN XM XT Hg]
      · iexists _, _, _, _, _
        isplitr; swap
        · isplitl [XS]; · iexact XS
          isplitl [XH]; · iexact XH
          isplitl [XN]; · iexact XN
          isplitl [XM]; · iexact XM
          isplitl [XT]; · iexact XT
          iexact Hg
        ipureintro; exact inv_row_later m c t hi hI hx (congrArg (k0_pay6 _) hx) (congrArg k0_pay7 hx)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      rw [hn, rowsS_eq m c t hi hI, feat_ge m c hi]
      iexact H12
  · by_cases hi : t.val < 5
    · have e1 : xH = feat0 m c := (hI.h hb).trans (feat_lt m c hi)
      have e2 : xM = k0_pay6 (cmA m c) (feat0 m c) := (hI.msk hb).trans (by rw [feat_lt m c hi])
      have e3 : xT = k0_pay7 (feat0 m c) := (hI.tr hb).trans (by rw [feat_lt m c hi])
      iapply (run_later_row c (grid0.coords t) _ _ _ _ _ _ _ _ _ _ _ _ _ _ _ _ _ _ _ _ _ _ _ _ _ _ scS (Memref.isWhole_whole _) scH (Memref.isWhole_whole _) scN (Memref.isWhole_whole _) scM (Memref.isWhole_whole _) scT (Memref.isWhole_whole _) (fun h => hb ((condB_iff t).mp h)) ((condI_iff t).mpr hi) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xS xH xN xM xT Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [XS]; · iexact XS
      isplitl [XH]; · iexact XH
      isplitl [XN]; · iexact XN
      isplitl [XM]; · iexact XM
      isplitl [XT]; · iexact XT
      iintro ⟨H0, H1, H2, H3, H4, H5, H6, H7, H8, H9, H10, H11, H12, XS, XH, XN, XM, XT⟩
      isplitl [XS XH XN XM XT Hg]
      · iexists _, _, _, _, _
        isplitr; swap
        · isplitl [XS]; · iexact XS
          isplitl [XH]; · iexact XH
          isplitl [XN]; · iexact XN
          isplitl [XM]; · iexact XM
          isplitl [XT]; · iexact XT
          iexact Hg
        ipureintro; exact inv_row m c t hi hI e1 e2 e3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      rw [e1, e2, e3, pay8_eq m c t hi, feat_lt m c hi]
      iexact H12
    · have e1 : xH = k0_pay5 (next1 m c) := (hI.h hb).trans (feat_ge m c hi)
      have e2 : xM = k0_pay6 (cmA m c) (k0_pay5 (next1 m c)) := (hI.msk hb).trans (by rw [feat_ge m c hi])
      have e3 : xT = k0_pay7 (k0_pay5 (next1 m c)) := (hI.tr hb).trans (by rw [feat_ge m c hi])
      iapply (run_later_row_later c (grid0.coords t) _ _ _ _ _ _ _ _ _ _ _ _ _ _ _ _ _ _ _ _ _ _ _ _ _ _ scS (Memref.isWhole_whole _) scH (Memref.isWhole_whole _) scN (Memref.isWhole_whole _) scM (Memref.isWhole_whole _) scT (Memref.isWhole_whole _) (fun h => hb ((condB_iff t).mp h)) (fun h => hi ((condI_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xS xH xN xM xT Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [XS]; · iexact XS
      isplitl [XH]; · iexact XH
      isplitl [XN]; · iexact XN
      isplitl [XM]; · iexact XM
      isplitl [XT]; · iexact XT
      iintro ⟨H0, H1, H2, H3, H4, H5, H6, H7, H8, H9, H10, H11, H12, XS, XH, XN, XM, XT⟩
      isplitl [XS XH XN XM XT Hg]
      · iexists _, _, _, _, _
        isplitr; swap
        · isplitl [XS]; · iexact XS
          isplitl [XH]; · iexact XH
          isplitl [XN]; · iexact XN
          isplitl [XM]; · iexact XM
          isplitl [XT]; · iexact XT
          iexact Hg
        ipureintro; exact inv_row_later m c t hi hI e1 e2 e3
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      rw [e1, e2, e3, rowsS_eq m c t hi hI, feat_ge m c hi]
      iexact H12

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%xS, XS⟩, ⟨%xH, XH⟩, ⟨%xN, XN⟩, ⟨%xM, XM⟩, ⟨%xT, XT⟩⟩, Hg⟩
  iexists xS, xH, xN, xM, xT
  isplitr; · ipureintro; exact inv_zero m c _ _ _ _ _
  isplitl [XS]; · iexact XS
  isplitl [XH]; · iexact XH
  isplitl [XN]; · iexact XN
  isplitl [XM]; · iexact XM
  isplitl [XT]; · iexact XT
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨%xS, %xH, %xN, %xM, %xT, -, XS, XH, XN, XM, XT, Hg⟩
  isplitr [Hg]; swap; · iexact Hg
  isplitl [XS]; · iexists _; iexact XS
  isplitl [XH]; · iexists _; iexact XH
  isplitl [XN]; · iexists _; iexact XN
  isplitl [XM]; · iexists _; iexact XM
  iexists _; iexact XT

/-! ## The launch -/

set_option backward.isDefEq.respectTransparency.types false in
/-- The run: every array of the pipeline ends at what the proof data says, the later host lines run on it, and every
    semaphore counter is zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

/-- Every run ends with each window's array as the points left it, and every other buffer as the operations after the grid leave it. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Layer.lean ====
/- One round of the graph convolution, in the two forms of the two programs, and their equality over the
   extended reals. -/
module

public import Idealize.ShloMosaic.PureOps.Ideal
public import Idealize.ShloMosaic.PureOps.Ideal.Laws
public import Idealize.ShloMosaic.Lib.IdealHost

@[expose] public section

noncomputable section

namespace Cert.Layer

open Idealize.ShloMosaic
open scoped BigOperators

/-- The weight of each of the four scores in their mean. -/
abbrev quarter : EReal := Ideal.ofBits .f32 0x3E800000#32

/-- The small number added to a row's sum before dividing by it. -/
abbrev small : EReal := Ideal.ofBits .f32 0x322BCC77#32

/-- A quarter is the real number one quarter. -/
theorem quarter_eq : quarter = ((1 / 4 : ℝ) : EReal) := by
  simp [quarter, Ideal.ofBits, Ideal.ieee, -EReal.coe_mul]; norm_num

/-- A quarter is not negative. -/
theorem quarter_nonneg : 0 ≤ quarter := by
  rw [quarter_eq]; exact EReal.coe_nonneg.2 (by norm_num)

/-- A quarter is not infinite. -/
theorem quarter_ne_top : quarter ≠ ⊤ := by
  rw [quarter_eq]; exact EReal.coe_ne_top _

/-- The small number is positive. -/
theorem small_pos : 0 < small := by
  simp [small, Ideal.ofBits, Ideal.ieee, -EReal.coe_mul]

/-- The small number is not infinite. -/
theorem small_ne_top : small ≠ ⊤ := by
  simp [small, Ideal.ofBits, Ideal.ieee, -EReal.coe_mul]

/-! ### Sums of extended reals -/

/-- A finite nonnegative factor goes into any sum. -/
theorem mul_sum_of_ne_top {ι : Type} (s : Finset ι) {a : EReal} (ha : 0 ≤ a) (ha' : a ≠ ⊤) (f : ι → EReal) :
    a * ∑ j ∈ s, f j = ∑ j ∈ s, a * f j := by
  classical
  induction s using Finset.induction_on with
  | empty => simp
  | insert x s hx ih =>
    rw [Finset.sum_insert hx, Finset.sum_insert hx, EReal.left_distrib_of_nonneg_of_ne_top ha ha', ih]

/-- Any factor goes into a sum of nonnegative terms. -/
theorem mul_sum_of_nonneg {ι : Type} (s : Finset ι) (a : EReal) (f : ι → EReal) (hf : ∀ j, 0 ≤ f j) :
    a * ∑ j ∈ s, f j = ∑ j ∈ s, a * f j := by
  classical
  induction s using Finset.induction_on with
  | empty => simp
  | insert x s hx ih =>
    rw [Finset.sum_insert hx, Finset.sum_insert hx,
      EReal.left_distrib_of_nonneg (hf x) (Finset.sum_nonneg fun j _ => hf j), ih]

/-! ### The scores -/

/-- The exponential is not negative. -/
theorem exp_nonneg (x : EReal) : 0 ≤ Ideal.exp x := by
  induction x with
  | bot => exact le_refl _
  | top => exact le_top
  | coe r => exact EReal.coe_nonneg.2 (Real.exp_pos r).le

/-- The logistic function is not negative. -/
theorem logistic_nonneg (x : EReal) : 0 ≤ Ideal.logistic x := by
  have h : (0 : EReal) < 1 + Ideal.exp (-x) := EReal.add_pos_of_pos_of_nonneg (by norm_num) (exp_nonneg _)
  unfold Ideal.logistic Ideal.div
  rw [if_neg h.ne', one_mul]
  exact EReal.inv_nonneg_of_nonneg h.le

/-- The score of a pair of entities: the logistic function of the mean of the learned similarity of
    their features and three given scores. -/
def score {n d : ℕ} (S : Fin d → Fin d → EReal) (G W T : Fin n → Fin n → EReal) (H : Fin n → Fin d → EReal)
    (i j : Fin n) : EReal :=
  Ideal.logistic (quarter * ((((∑ k, (∑ e, H i e * S e k) * H j k) + G i j) + W i j) + T i j))

/-- The same score with the quarter taken into the similarity's first product and into the sum of the
    given three. -/
theorem score_split {n d : ℕ} (S : Fin d → Fin d → EReal) (G W T : Fin n → Fin n → EReal)
    (H : Fin n → Fin d → EReal) (i j : Fin n) :
    Ideal.logistic ((∑ k, (quarter * ∑ e, H i e * S e k) * H j k) + quarter * ((G i j + W i j) + T i j))
      = score S G W T H i j := by
  unfold score
  congr 1
  rw [add_assoc (_ + G i j), add_assoc _ (G i j), ← add_assoc (G i j),
    EReal.left_distrib_of_nonneg_of_ne_top quarter_nonneg quarter_ne_top (∑ k, _),
    mul_sum_of_ne_top _ quarter_nonneg quarter_ne_top (fun k => (∑ e, H i e * S e k) * H j k)]
  simp only [mul_assoc]

/-- No score is negative. -/
theorem score_nonneg {n d : ℕ} (S : Fin d → Fin d → EReal) (G W T : Fin n → Fin n → EReal)
    (H : Fin n → Fin d → EReal) (i j : Fin n) : 0 ≤ score S G W T H i j := logistic_nonneg _

/-! ### The messages -/

/-- One on the diagonal, zero off it. -/
def unit {n : ℕ} (i j : Fin n) : EReal := if i = j then 1 else 0

/-- An entry of the masked adjacency: the score, with `w` more on the diagonal, times the masks of its row
    and of its column. -/
def entry {n : ℕ} (σ : Fin n → Fin n → EReal) (c : Fin n → EReal) (w : EReal) (i j : Fin n) : EReal :=
  (c i * (σ i j + w * unit i j)) * c j

/-- The message of entity `i`: the rows of `H` averaged by the adjacency's row, divided by its sum. -/
def message {n d : ℕ} (σ : Fin n → Fin n → EReal) (c : Fin n → EReal) (w : EReal) (H : Fin n → Fin d → EReal)
    (i : Fin n) (k : Fin d) : EReal :=
  ∑ j, Ideal.div (entry σ c w i j) ((∑ j, entry σ c w i j) + small) * H j k

/-- The divisor with the row's mask taken out of the sum and the diagonal apart. -/
def divisor {n : ℕ} (σ : Fin n → Fin n → EReal) (c : Fin n → EReal) (w : EReal) (i : Fin n) : EReal :=
  c i * ((∑ j, σ i j * c j) + w * c i) + small

/-- The message with the row's mask and the division taken out of the sum and the diagonal apart. -/
def messageOut {n d : ℕ} (σ : Fin n → Fin n → EReal) (c : Fin n → EReal) (w : EReal) (H : Fin n → Fin d → EReal)
    (i : Fin n) (k : Fin d) : EReal :=
  Ideal.div (c i * ((∑ j, σ i j * (c j * H j k)) + (w * c i) * H i k)) (divisor σ c w i)

section
variable {n d : ℕ} {σ : Fin n → Fin n → EReal} {c : Fin n → EReal} {w : EReal}

/-- The sum of the diagonal part of a row is its diagonal term. -/
theorem sum_unit (f : Fin n → EReal) (i : Fin n) : ∑ j, (w * unit i j) * f j = w * f i := by
  rw [Finset.sum_eq_single i]
  · simp [unit]
  · intro j _ hj; simp [unit, Ne.symm hj]
  · intro h; exact absurd (Finset.mem_univ i) h

/-- The entries of the unit matrix are not negative. -/
theorem unit_nonneg (i j : Fin n) : 0 ≤ unit i j := by
  unfold unit; split <;> norm_num

/-- A row's masked weights: the scores and the diagonal weight, each times the column's mask. -/
theorem weight_nonneg (hσ : ∀ i j, 0 ≤ σ i j) (hc : ∀ i, 0 ≤ c i) (hw : 0 ≤ w) (i j : Fin n) :
    0 ≤ (σ i j + w * unit i j) * c j :=
  EReal.mul_nonneg (add_nonneg (hσ i j) (EReal.mul_nonneg hw (unit_nonneg i j))) (hc j)

/-- The sum with the diagonal weight in it is the sum without it and the diagonal term. -/
theorem sum_weight (hσ : ∀ i j, 0 ≤ σ i j) (hw : 0 ≤ w) (f : Fin n → EReal) (i : Fin n) :
    ∑ j, (σ i j + w * unit i j) * f j = (∑ j, σ i j * f j) + w * f i := by
  rw [← sum_unit f i, ← Finset.sum_add_distrib]
  exact Finset.sum_congr rfl fun j _ =>
    EReal.right_distrib_of_nonneg (hσ i j) (EReal.mul_nonneg hw (unit_nonneg i j))

/-- The two forms of the divisor are equal. -/
theorem divisor_eq (hσ : ∀ i j, 0 ≤ σ i j) (hc : ∀ i, 0 ≤ c i) (hw : 0 ≤ w) (i : Fin n) :
    (∑ j, entry σ c w i j) + small = divisor σ c w i := by
  unfold divisor entry
  rw [← sum_weight hσ hw, mul_sum_of_nonneg _ _ _ (weight_nonneg hσ hc hw i)]
  simp only [mul_assoc]

/-- The two forms of the message are equal where the scores, the masks and the diagonal weight are not
    negative. -/
theorem message_eq (hσ : ∀ i j, 0 ≤ σ i j) (hc : ∀ i, 0 ≤ c i) (hw : 0 ≤ w) (H : Fin n → Fin d → EReal)
    (i : Fin n) (k : Fin d) : message σ c w H i k = messageOut σ c w H i k := by
  unfold message messageOut
  rw [divisor_eq hσ hc hw]
  have hsum : 0 ≤ (∑ j, σ i j * c j) + w * c i :=
    add_nonneg (Finset.sum_nonneg fun j _ => EReal.mul_nonneg (hσ i j) (hc j)) (EReal.mul_nonneg hw (hc i))
  have hD : 0 < divisor σ c w i := by
    unfold divisor
    rw [add_comm]
    exact EReal.add_pos_of_pos_of_nonneg small_pos (EReal.mul_nonneg (hc i) hsum)
  have hdiv : ∀ x, Ideal.div x (divisor σ c w i) = x * (divisor σ c w i)⁻¹ := fun x => by
    unfold Ideal.div; rw [if_neg hD.ne']
  simp only [hdiv]
  -- the sum of the weighted rows, the diagonal among them
  have hrow : (∑ j, σ i j * (c j * H j k)) + (w * c i) * H i k = ∑ j, ((σ i j + w * unit i j) * c j) * H j k := by
    simp only [mul_assoc (_ + _)]
    rw [sum_weight hσ hw (fun j => c j * H j k), mul_assoc]
  rw [hrow]
  by_cases hi : c i = ⊤
  · -- an infinite row mask: the divisor is infinite, or every weight of the row is zero
    by_cases hz : (∑ j, σ i j * c j) + w * c i = 0
    · rw [← sum_weight hσ hw] at hz
      have hz' : ∀ j, (σ i j + w * unit i j) * c j = 0 := fun j =>
        (Finset.sum_eq_zero_iff_of_nonneg fun j _ => weight_nonneg hσ hc hw i j).1 hz j (Finset.mem_univ j)
      unfold entry
      simp only [mul_assoc (c i), hz', mul_zero, zero_mul, Finset.sum_const_zero]
    · have hT : divisor σ c w i = ⊤ := by
        unfold divisor
        rw [hi, EReal.top_mul_of_pos (lt_of_le_of_ne (hi ▸ hsum) (Ne.symm (hi ▸ hz)))]
        exact EReal.top_add_of_ne_bot (small_pos.trans' EReal.bot_lt_zero).ne'
      simp only [hT, EReal.inv_top, mul_zero, zero_mul, Finset.sum_const_zero]
  · -- a finite row mask: the factor taken out is finite and not negative
    have hr : 0 ≤ c i * (divisor σ c w i)⁻¹ := EReal.mul_nonneg (hc i) (EReal.inv_nonneg_of_nonneg hD.le)
    have hr' : c i * (divisor σ c w i)⁻¹ ≠ ⊤ := by
      have h1 : c i ≠ ⊥ := (EReal.bot_lt_zero.trans_le (hc i)).ne'
      have h2 : (divisor σ c w i)⁻¹ ≠ ⊤ := (EReal.inv_lt_top _).ne
      have h3 : (divisor σ c w i)⁻¹ ≠ ⊥ := (EReal.bot_lt_inv _).ne'
      rw [EReal.mul_ne_top]
      exact ⟨Or.inl h1, Or.inl (hc i), Or.inl hi, Or.inr h2⟩
    rw [mul_right_comm (c i), mul_sum_of_ne_top _ hr hr']
    refine Finset.sum_congr rfl fun j _ => ?_
    unfold entry
    rw [mul_assoc (c i), mul_right_comm (c i), mul_assoc (c i * _)]

end

/-! ### A round and the scores at the end -/

/-- The features after a round: the messages through the round's weights and offset, and `tanh`. -/
def convolved {n d : ℕ} (σ : Fin n → Fin n → EReal) (c : Fin n → EReal) (w : EReal) (W : Fin d → Fin d → EReal)
    (b : Fin d → EReal) (H : Fin n → Fin d → EReal) (i : Fin n) (k : Fin d) : EReal :=
  Ideal.tanh ((∑ e, message σ c w H i e * W e k) + b k)

end Cert.Layer

end
-- ==== Proof.RI.Value.lean ====
/- The reference's result, read element by element: two rounds of the graph convolution in the textbook
   form (`Layer.convolved`), and the output product. -/
module

public import proofs.«01_k».proof.Proof.Gen.ReferenceIdeal.Read
public import proofs.«01_k».proof.Proof.Layer

@[expose] public section

set_option maxRecDepth 16384

noncomputable section

namespace Cert.ReferenceIdeal.Read

open Cert.ReferenceIdeal Cert.ReferenceIdeal.Gen Idealize.ShloMosaic Idealize.ShloMosaic.ValueIdx
open Cert.Layer
open scoped BigOperators

/-- A two-axis array of extended reals as a function of a row and a column. -/
abbrev mat {n d : ℕ} (x : (⟨⟨2, ![n, d]⟩, .f32⟩ : BufTy).Contents (Elt Ideal)) (i : Fin n) (k : Fin d) : EReal :=
  x (ix2 i k)

/-- One matrix of a stack of them. -/
abbrev slab {l n d : ℕ} (x : (⟨⟨3, ![l, n, d]⟩, .f32⟩ : BufTy).Contents (Elt Ideal)) (a : Fin l) (i : Fin n)
    (k : Fin d) : EReal := x (ix3 a i k)

/-- The one column of an array as a function of the row. -/
abbrev col {n : ℕ} (x : (⟨⟨2, ![n, 1]⟩, .f32⟩ : BufTy).Contents (Elt Ideal)) (i : Fin n) : EReal := x (ix2 i 0)

/-- The one element of an array without axes. -/
abbrev sole (x : (⟨S_, .f32⟩ : BufTy).Contents (Elt Ideal)) : EReal := x (fun a => a.elim0)

/-- Two indices of two axes with equal coordinates are equal. -/
theorem at2 {n d : ℕ} {j : (⟨2, ![n, d]⟩ : Shape).Idx} {a : Fin n} {b : Fin d} (h0 : (j 0).val = a.val)
    (h1 : (j 1).val = b.val) : j = ix2 a b := by
  funext x; match x with
  | ⟨0, _⟩ => exact Fin.ext h0
  | ⟨1, _⟩ => exact Fin.ext h1

/-- Two indices of three axes with equal coordinates are equal. -/
theorem at3 {l n d : ℕ} {j : (⟨3, ![l, n, d]⟩ : Shape).Idx} {a : Fin l} {b : Fin n} {c : Fin d}
    (h0 : (j 0).val = a.val) (h1 : (j 1).val = b.val) (h2 : (j 2).val = c.val) : j = ix3 a b c := by
  funext x; match x with
  | ⟨0, _⟩ => exact Fin.ext h0
  | ⟨1, _⟩ => exact Fin.ext h1
  | ⟨2, _⟩ => exact Fin.ext h2

/-- An index without axes is the only one. -/
theorem at0 (j : S_.Idx) : j = fun a => a.elim0 := funext fun a => a.elim0

section
variable (x0 : (⟨S2000x128, .f32⟩ : BufTy).Contents (Elt Ideal))
  (x1 x2 x3 : (⟨S2000x2000, .f32⟩ : BufTy).Contents (Elt Ideal))
  (x4 : (⟨S2000x1, .f32⟩ : BufTy).Contents (Elt Ideal)) (x5 : (⟨S20x100, .f32⟩ : BufTy).Contents (Elt Ideal))
  (x6 : (⟨S1x128x128, .f32⟩ : BufTy).Contents (Elt Ideal)) (x7 : (⟨S_, .f32⟩ : BufTy).Contents (Elt Ideal))
  (x8 : (⟨S2x128x128, .f32⟩ : BufTy).Contents (Elt Ideal)) (x9 : (⟨S2x128, .f32⟩ : BufTy).Contents (Elt Ideal))
  (x10 : (⟨S128x1, .f32⟩ : BufTy).Contents (Elt Ideal)) (x11 : (⟨S1, .f32⟩ : BufTy).Contents (Elt Ideal))

/-- The bilinear similarity of two entities' features. -/
theorem sim_at (i j : Fin 2000) :
    val_main_v9 (F := Ideal) x0 x6 (ix2 i j) = ∑ k, (∑ e, mat x0 i e * slab x6 0 e k) * mat x0 j k := by
  rw [val_main_v9_apply]
  refine Finset.sum_congr rfl fun k _ => ?_
  rw [val_main_v7_apply, val_main_v8_apply]
  congr 1
  · refine Finset.sum_congr rfl fun e _ => ?_
    rw [val_main_v6_apply]
    congr 2
    · exact at2 rfl rfl
    · refine at3 rfl ?_ ?_
      · show (e.val * 128 + k.val) / 128 % 128 = e.val
        omega
      · show (e.val * 128 + k.val) % 128 = k.val
        omega
  · exact congrArg x0 (at2 rfl rfl)

/-- The reference's scores. -/
theorem score_at (i j : Fin 2000) :
    val_main_v20 (F := Ideal) x0 x1 x2 x3 x6 (ix2 i j)
      = score (slab x6 0) (mat x1) (mat x2) (mat x3) (mat x0) i j := by
  rw [val_main_v20_apply, val_main_v18_apply, val_main_v19_apply, val_main_v17_apply, val_main_v16_apply,
    val_main_v15_apply, val_main_v14_apply, val_main_v13_apply, val_main_v12_apply, val_main_v11_apply,
    val_main_v10_apply, sim_at, val_main_cst_apply, val_main_cst_0_apply, val_main_cst_1_apply]
  show Ideal.div (Ideal.ofBits .f32 0x3F800000#32) (Ideal.ofBits .f32 0x3F800000#32 + _) = _
  rw [Ideal.ofBits_one_f32]
  rfl

/-- The reference's unit matrix. -/
theorem unit_at (i j : Fin 2000) : val_main_v5 (F := Ideal) (ix2 i j) = unit i j := by
  rw [val_main_v5_apply, val_main_v4_apply, val_main_v3_apply, val_main_v2_apply, val_main_v1_apply,
    val_main_v0_apply, val_main_c_apply]
  show FloatOps.uitofp .f32 (IntOp.cmpi .eq (BitVec.ofNat 32 i.val + 0#32) (BitVec.ofNat 32 j.val)) = _
  rw [BitVec.add_zero]
  have hi := i.isLt
  have hj := j.isLt
  by_cases h : i = j
  · subst h
    rw [show IntOp.cmpi .eq (BitVec.ofNat 32 i.val) (BitVec.ofNat 32 i.val) = 1#1 by simp [IntOp.cmpi]]
    show (((1#1 : BitVec 1).toNat : ℝ) : EReal) = _
    simp [unit]
  · have hne : BitVec.ofNat 32 i.val ≠ BitVec.ofNat 32 j.val := fun e => h (Fin.ext (by
      have e' := congrArg BitVec.toNat e
      simp only [BitVec.toNat_ofNat] at e'
      omega))
    rw [show IntOp.cmpi .eq (BitVec.ofNat 32 i.val) (BitVec.ofNat 32 j.val) = 0#1 by
      unfold IntOp.cmpi
      show BitVec.ofBool (BitVec.ofNat 32 i.val == BitVec.ofNat 32 j.val) = 0#1
      rw [beq_eq_false_iff_ne.2 hne]
      rfl]
    show (((0#1 : BitVec 1).toNat : ℝ) : EReal) = _
    simp [unit, h]

/-- The reference's masked adjacency. -/
theorem entry_at (i j : Fin 2000) :
    val_main_v28 (F := Ideal) x0 x1 x2 x3 x4 x6 x7 (ix2 i j)
      = entry (score (slab x6 0) (mat x1) (mat x2) (mat x3) (mat x0)) (col x4) (sole x7) i j := by
  rw [val_main_v28_apply, val_main_v27_apply, val_main_v26_apply, val_main_v25_apply, val_main_v24_apply,
    val_main_v23_apply, score_at, val_main_v22_apply, unit_at, val_main_v21_apply]
  show (x4 _ * (_ + x7 _ * _)) * x4 _ = _
  rw [at0 (idx_main_v21 _), show idx_main_v24 (ix2 i j) = ix2 i 0 from at2 rfl rfl,
    show idx_main_v26 (idx_main_v27 (ix2 i j)) = ix2 j 0 from at2 rfl rfl]
  rfl

/-- The reference's messages. -/
theorem message_at (i : Fin 2000) (k : Fin 128) :
    val_main_v37 (F := Ideal) x0 x1 x2 x3 x4 x6 x7 (ix2 i k)
      = message (score (slab x6 0) (mat x1) (mat x2) (mat x3) (mat x0)) (col x4) (sole x7) (mat x0) i k := by
  have hone : ∀ x : EReal, Ideal.div x (Ideal.ofBits .f32 0x3F800000#32) = x := fun x => by
    rw [Ideal.ofBits_one_f32]
    unfold Ideal.div
    rw [if_neg one_ne_zero, inv_one, mul_one]
  rw [val_main_v37_apply, val_main_v36_apply, val_main_cst_4_apply]
  refine (hone _).trans ?_
  rw [val_main_v35_apply]
  refine Finset.sum_congr rfl fun j _ => ?_
  rw [show lidx_main_v35 (ix2 i k) j = ix2 i j from at2 rfl rfl,
    show ridx_main_v35 (ix2 i k) j = ix2 j k from at2 rfl rfl, val_main_v34_apply, val_main_v33_apply,
    val_main_v32_apply, val_main_v31_apply, val_main_v30_apply, val_main_v29_apply, entry_at,
    val_main_cst_2_apply, val_main_cst_3_apply]
  show Ideal.div _ ((Ideal.ofBits .f32 0x00000000#32 + _) + _) * _ = _
  rw [Ideal.ofBits_zero_f32, zero_add]
  congr 3
  refine Finset.sum_congr rfl fun j' _ => ?_
  rw [show idx_main_v29 (idx_main_v30 (idx_main_v33 (ix2 i j))) j' = ix2 i j' from at2 rfl rfl, entry_at]

/-- The reference's features after the first round. -/
theorem round_at (i : Fin 2000) (k : Fin 128) :
    val_main_v46 (F := Ideal) x0 x1 x2 x3 x4 x6 x7 x8 x9 (ix2 i k)
      = convolved (score (slab x6 0) (mat x1) (mat x2) (mat x3) (mat x0)) (col x4) (sole x7) (slab x8 0)
          (mat x9 0) (mat x0) i k := by
  rw [val_main_v46_apply, val_main_v45_apply, val_main_v44_apply, val_main_v43_apply, val_main_v42_apply,
    val_main_v41_apply, val_main_v40_apply]
  show Ideal.tanh (_ + x9 _) = _
  unfold convolved
  congr 2
  · refine Finset.sum_congr rfl fun e _ => ?_
    rw [show lidx_main_v40 (ix2 i k) e = ix2 i e from at2 rfl rfl, message_at, val_main_v39_apply,
      val_main_v38_apply]
    congr 2
    refine at3 rfl ?_ ?_
    · show (e.val * 128 + k.val) / 128 % 128 = e.val
      omega
    · show (e.val * 128 + k.val) % 128 = k.val
      omega
  · refine congrArg x9 (at2 rfl ?_)
    show k.val % 128 = k.val
    omega

/-- The second round's messages are the first round's of the features it starts from. -/
theorem second_message :
    val_main_v78 (F := Ideal) x0 x1 x2 x3 x4 x6 x7 x8 x9
      = val_main_v37 (F := Ideal) (val_main_v46 (F := Ideal) x0 x1 x2 x3 x4 x6 x7 x8 x9) x1 x2 x3 x4 x6 x7 := rfl

/-- The reference's features after the second round. -/
theorem second_round_at (i : Fin 2000) (k : Fin 128) :
    val_main_v87 (F := Ideal) x0 x1 x2 x3 x4 x6 x7 x8 x9 (ix2 i k)
      = (let H := mat (val_main_v46 (F := Ideal) x0 x1 x2 x3 x4 x6 x7 x8 x9)
        convolved (score (slab x6 0) (mat x1) (mat x2) (mat x3) H) (col x4) (sole x7) (slab x8 1) (mat x9 1) H i k) := by
  rw [val_main_v87_apply, val_main_v86_apply, val_main_v85_apply, val_main_v84_apply, val_main_v83_apply,
    val_main_v82_apply, val_main_v81_apply]
  show Ideal.tanh (_ + x9 _) = _
  unfold convolved
  congr 2
  · refine Finset.sum_congr rfl fun e _ => ?_
    rw [show lidx_main_v81 (ix2 i k) e = ix2 i e from at2 rfl rfl, second_message, message_at,
      val_main_v80_apply, val_main_v79_apply]
    congr 2
    refine at3 rfl ?_ ?_
    · show (e.val * 128 + k.val) / 128 % 128 = e.val
      omega
    · show (e.val * 128 + k.val) % 128 = k.val
      omega
  · refine congrArg x9 (at2 rfl ?_)
    show k.val % 128 = k.val
    omega

/-- The reference's result: the mask times the output product of the features of entity `100 a + b`. -/
theorem result_at (a : Fin 20) (b : Fin 100) (r : Fin 2000) (hr : r.val = 100 * a.val + b.val) :
    val_main_v94 (F := Ideal) x0 x1 x2 x3 x4 x5 x6 x7 x8 x9 x10 x11 (ix2 a b)
      = mat x5 a b * ((∑ e, mat (val_main_v87 (F := Ideal) x0 x1 x2 x3 x4 x6 x7 x8 x9) r e * col x10 e)
          + x11 (ix1 0)) := by
  have ha := a.isLt
  have hb := b.isLt
  rw [val_main_v94_apply, val_main_v93_apply, val_main_v92_apply, val_main_v91_apply, val_main_v90_apply,
    val_main_v89_apply]
  refine congrArg₂ (fun u v : EReal => mat x5 a b * (u + v)) ?_ ?_
  · refine Finset.sum_congr rfl fun e _ => ?_
    have he := e.isLt
    rw [val_main_v88_apply]
    refine congrArg₂ (· * ·) (congrArg (val_main_v87 (F := Ideal) x0 x1 x2 x3 x4 x6 x7 x8 x9) (at2 ?_ ?_))
      (congrArg x10 (at2 rfl rfl))
    · show (((a.val * 100 + b.val) / 100 * 100 + (a.val * 100 + b.val) / 1 % 100) * 128 + e.val) / 128 = r.val
      omega
    · show (((a.val * 100 + b.val) / 100 * 100 + (a.val * 100 + b.val) / 1 % 100) * 128 + e.val) % 128 = e.val
      omega
  · refine congrArg x11 ?_
    funext x; match x with
    | ⟨0, _⟩ => rfl

end

end Cert.ReferenceIdeal.Read

end
-- ==== Proof.KI.Payload.lean ====
/- The kernel's block computations over the extended reals, read element by element. -/
module

public import proofs.«01_k».proof.Proof.KI.Inv
public import proofs.«01_k».proof.Proof.Layer
public import Idealize.ShloMosaic.Lib.Pointwise

@[expose] public section

set_option maxRecDepth 16384

noncomputable section

namespace Cert.KernelIdeal.Gen

open Idealize.ShloMosaic Cert.Layer
open scoped BigOperators

/-- The two spellings of an index of two axes. -/
theorem ix2_eq {n d : ℕ} (a : Fin n) (b : Fin d) : ValueIdx.ix2 a b = ix2 a b := rfl
/-- The two spellings of an index of three axes. -/
theorem ix3_eq {l n d : ℕ} (a : Fin l) (b : Fin n) (e : Fin d) : ValueIdx.ix3 a b e = ix3 a b e := rfl

section
variable (hb : Vec Ideal S400x128 .f32) (sim : Vec Ideal S128x128 .f32) (ht : Vec Ideal S128x2000 .f32)
  (s : Vec Ideal S400x2000 .f32) (cm : Vec Ideal S2000x1 .f32) (rm : Vec Ideal S400x1 .f32)
  (dv : Vec Ideal S1x1 .f32) (hm : Vec Ideal S2000x128 .f32) (W : Vec Ideal S1x128x128 .f32)
  (bi : Vec Ideal S1x1x128 .f32)

/-- The scores of a row block. -/
theorem pay9_at (p : Fin 400) (j : Fin 2000) :
    k0_pay9 hb sim ht s (ix2 p j)
      = Ideal.logistic ((∑ k : Fin 128, (quarter * ∑ e : Fin 128, hb (ix2 p e) * sim (ix2 e k)) * ht (ix2 k j))
          + s (ix2 p j)) := by
  pointwise [k0_pay9]

/-- The diagonal weight times the rows' masks. -/
theorem pay10_at (p : Fin 400) : k0_pay10 rm dv (ix2 p 0) = dv (ix2 0 0) * rm (ix2 p 0) := by
  pointwise [k0_pay10]

/-- The divisors of a row block. -/
theorem pay11_at (p : Fin 400) :
    k0_pay11 hb sim ht s cm rm dv (ix2 p 0)
      = rm (ix2 p 0) * ((∑ j : Fin 2000, k0_pay9 hb sim ht s (ix2 p j) * cm (ix2 j 0)) + dv (ix2 0 0) * rm (ix2 p 0))
          + small := by
  rw [← pay10_at rm dv p]
  unfold k0_pay11
  generalize k0_pay9 hb sim ht s = a
  generalize k0_pay10 rm dv = b
  pointwise

/-- The next features of a row block, from its scores, its divisors and the masked features. -/
theorem pay1_at (sg : FVec Ideal S400x2000 .f32) (dw den : FVec Ideal S400x1 .f32) (p : Fin 400) (k : Fin 128) :
    k0_pay1 hb sg rm dw den hm W bi (ix2 p k)
      = Ideal.tanh ((∑ e : Fin 128, Ideal.div (rm (ix2 p 0) * ((∑ j : Fin 2000, sg (ix2 p j) * hm (ix2 j e))
            + dw (ix2 p 0) * hb (ix2 p e))) (den (ix2 p 0)) * W (ix3 0 e k)) + bi (ix3 0 0 k)) := by
  pointwise [k0_pay1]

/-- The next features are stored as computed. -/
theorem pay2_eq (sg : FVec Ideal S400x2000 .f32) (dw den : FVec Ideal S400x1 .f32) :
    k0_pay2 hb sg rm dw den hm W bi = k0_pay1 hb sg rm dw den hm W bi := by
  unfold k0_pay2
  exact shapeCast_self _ _

/-- The output block, from the next features. -/
theorem pay3_at (sg : FVec Ideal S400x2000 .f32) (dw den : FVec Ideal S400x1 .f32) (wo : Vec Ideal S128x1 .f32)
    (bo : Vec Ideal S1x1 .f32) (om : Vec Ideal S400x1 .f32) (p : Fin 400) :
    k0_pay3 hb sg rm dw den hm W bi wo bo om (ix3 0 p 0)
      = om (ix2 p 0) * ((∑ e : Fin 128, k0_pay1 hb sg rm dw den hm W bi (ix2 p e) * wo (ix2 e 0)) + bo (ix2 0 0)) := by
  unfold k0_pay3
  generalize k0_pay1 hb sg rm dw den hm W bi = h
  pointwise

/-- The embeddings are copied as they are. -/
theorem pay4_eq (x : Vec Ideal S2000x128 .f32) : k0_pay4 x = x := by unfold k0_pay4; exact shapeCast_self _ _
/-- The next features are copied as they are. -/
theorem pay5_eq (x : Vec Ideal S2000x128 .f32) : k0_pay5 x = x := by unfold k0_pay5; exact shapeCast_self _ _

/-- The features with the candidate mask on the rows. -/
theorem pay6_at (x : Vec Ideal S2000x128 .f32) (j : Fin 2000) (k : Fin 128) :
    k0_pay6 cm x (ix2 j k) = cm (ix2 j 0) * x (ix2 j k) := by
  pointwise [k0_pay6]

/-- The features transposed. -/
theorem pay7_at (x : Vec Ideal S2000x128 .f32) (j : Fin 2000) (k : Fin 128) : k0_pay7 x (ix2 k j) = x (ix2 j k) := by
  pointwise [k0_pay7]

/-- The given scores of a row block, a quarter of their sum. -/
theorem pay8_at (g w t : Vec Ideal S400x2000 .f32) (p : Fin 400) (j : Fin 2000) :
    k0_pay8 g w t (ix2 p j) = quarter * ((g (ix2 p j) + w (ix2 p j)) + t (ix2 p j)) := by
  pointwise [k0_pay8]

end

end Cert.KernelIdeal.Gen

end
-- ==== Proof.KI.Inputs.lean ====
/- The blocks the grid's points read, as parts of the argument arrays. -/
module

public import proofs.«01_k».proof.Proof.KI.Payload
public import Idealize.ShloMosaic.Lib.Claim
public import Idealize.ShloMosaic.Lib.StableHlo.ReadAt
public import Idealize.ShloMosaic.Lib.Pipeline.ValueKit.Point

@[expose] public section

set_option maxRecDepth 16384

noncomputable section

namespace Cert.KernelIdeal.Gen

open Idealize.ShloMosaic Idealize.ShloMosaic.TcCoe Idealize.ShloMosaic.Tactic
open Idealize.SL.Sem

variable (m : (ℓ : Loc nD τ sig) → Buf (Elt Ideal) ℓ) (c : Dev nD)

/-- The array behind an argument, as launched. -/
abbrev arg (b : Ref sig .tc) : Buf (Elt Ideal) ((c.tc : Thread nD τ).loc b) := m ((c.tc : Thread nD τ).loc b)

/-- Where each window's block lies at each point. -/
theorem idx (t : Fin cfg0.N) :
    (t.val < 5 → win0_1.index t = ![t.val % 5, 0]) ∧ (t.val < 5 → win0_2.index t = ![t.val % 5, 0])
    ∧ (t.val < 5 → win0_3.index t = ![t.val % 5, 0]) ∧ win0_0.index t = ![0, 0] ∧ win0_4.index t = ![0, 0]
    ∧ win0_5.index t = ![0, 0] ∧ win0_6.index t = ![0, 0] ∧ win0_7.index t = ![t.val / 5, 0, 0]
    ∧ win0_8.index t = ![t.val / 5, 0, 0] ∧ win0_9.index t = ![0, 0] ∧ win0_10.index t = ![0, 0]
    ∧ win0_11.index t = ![t.val % 5, 0] ∧ win0_12.index t = ![t.val / 5, t.val % 5, 0] := by
  revert t
  decide +kernel

/-- The whole features. -/
theorem in0 (t : Fin cfg0.N) (j : Fin 2000) (k : Fin 128) :
    iblk m c 0 t (ix2 j k) = arg m c main_arg0 (ix2 j k) := by
  blk_point [iblk, V, idx t]

/-- A block of rows of the first adjacency, while the first round runs. -/
theorem in1 (t : Fin cfg0.N) (ht : t.val < 5) (p : Fin 400) (j : Fin 2000) (h : 400 * (t.val % 5) + p.val < 2000) :
    iblk m c 1 t (ix2 p j) = arg m c main_arg1 (ix2 ⟨400 * (t.val % 5) + p.val, h⟩ j) := by
  have e := (idx t).1 ht
  blk_point [iblk, V, e]

/-- A block of rows of the second adjacency, while the first round runs. -/
theorem in2 (t : Fin cfg0.N) (ht : t.val < 5) (p : Fin 400) (j : Fin 2000) (h : 400 * (t.val % 5) + p.val < 2000) :
    iblk m c 2 t (ix2 p j) = arg m c main_arg2 (ix2 ⟨400 * (t.val % 5) + p.val, h⟩ j) := by
  have e := (idx t).2.1 ht
  blk_point [iblk, V, e]

/-- A block of rows of the third adjacency, while the first round runs. -/
theorem in3 (t : Fin cfg0.N) (ht : t.val < 5) (p : Fin 400) (j : Fin 2000) (h : 400 * (t.val % 5) + p.val < 2000) :
    iblk m c 3 t (ix2 p j) = arg m c main_arg3 (ix2 ⟨400 * (t.val % 5) + p.val, h⟩ j) := by
  have e := (idx t).2.2.1 ht
  blk_point [iblk, V, e]

/-- The whole candidate mask. -/
theorem in4 (t : Fin cfg0.N) (j : Fin 2000) :
    iblk m c 4 t (ix2 j 0) = arg m c main_arg4 (ix2 j 0) := by
  blk_point [iblk, V, idx t]

/-- The similarity matrix, without its unit axis. -/
theorem in5 (t : Fin cfg0.N) (e k : Fin 128) :
    iblk m c 5 t (ix2 e k) = arg m c main_arg6 (ix3 0 e k) := by
  have h : ((cfg0.win 5).blk t).view.emb (ix2 e k) = (ix2 e k : S128x128.Idx) := by blk_ext [idx t]
  show V m c main_v0 _ = _
  rw [h]
  show StableHlo.after hostOps0 (fun b => m (c, b)) (Proc.devRef .tc main_v0) _ = _
  unfold hostOps0
  after_reads_at

/-- The weight of the diagonal. -/
theorem in6 (t : Fin cfg0.N)  :
    iblk m c 6 t (ix2 0 0) = arg m c main_arg7 (fun a => a.elim0) := by
  have h : ((cfg0.win 6).blk t).view.emb (ix2 0 0) = (ix2 0 0 : S1x1.Idx) := by blk_ext [idx t]
  show V m c main_v1 _ = _
  rw [h]
  show StableHlo.after hostOps0 (fun b => m (c, b)) (Proc.devRef .tc main_v1) _ = _
  unfold hostOps0
  after_reads_at
  exact congrArg (arg m c main_arg7) (funext fun a => a.elim0)

/-- One round's weights. -/
theorem in7 (t : Fin cfg0.N) (e k : Fin 128) (h : t.val / 5 < 2) :
    iblk m c 7 t (ix3 0 e k) = arg m c main_arg8 (ix3 ⟨t.val / 5, h⟩ e k) := by
  blk_point [iblk, V, idx t]

/-- One round's bias. -/
theorem in8 (t : Fin cfg0.N) (k : Fin 128) (h' : t.val / 5 < 2) :
    iblk m c 8 t (ix3 0 0 k) = arg m c main_arg9 (ix2 ⟨t.val / 5, h'⟩ k) := by
  have h : ((cfg0.win 8).blk t).view.emb (ix3 0 0 k) = (ix3 ⟨t.val / 5, h'⟩ 0 k : S2x1x128.Idx) := by blk_ext [idx t]
  show V m c main_v2 _ = _
  rw [h]
  show StableHlo.after hostOps0 (fun b => m (c, b)) (Proc.devRef .tc main_v2) _ = _
  unfold hostOps0
  after_reads_at

/-- The output weights. -/
theorem in9 (t : Fin cfg0.N) (e : Fin 128) :
    iblk m c 9 t (ix2 e 0) = arg m c main_arg10 (ix2 e 0) := by
  blk_point [iblk, V, idx t]

/-- The output bias. -/
theorem in10 (t : Fin cfg0.N)  :
    iblk m c 10 t (ix2 0 0) = arg m c main_arg11 (ix1 0) := by
  have h : ((cfg0.win 10).blk t).view.emb (ix2 0 0) = (ix2 0 0 : S1x1.Idx) := by blk_ext [idx t]
  show V m c main_v3 _ = _
  rw [h]
  show StableHlo.after hostOps0 (fun b => m (c, b)) (Proc.devRef .tc main_v3) _ = _
  unfold hostOps0
  after_reads_at

/-- A block of the output mask, read in row-major order. -/
theorem in11 (t : Fin cfg0.N) (p : Fin 400) (r : Fin 2000) (hr : r.val = 400 * (t.val % 5) + p.val) (a : Fin 20) (b : Fin 100)
    (hab : r.val = 100 * a.val + b.val) :
    iblk m c 11 t (ix2 p 0) = arg m c main_arg5 (ix2 a b) := by
  have h : ((cfg0.win 11).blk t).view.emb (ix2 p 0) = (ix2 r 0 : S2000x1.Idx) := by blk_ext [idx t]
  show V m c main_v4 _ = _
  rw [h]
  show StableHlo.after hostOps0 (fun b => m (c, b)) (Proc.devRef .tc main_v4) _ = _
  unfold hostOps0
  after_reads_at
  have e₁ : (⟨r.val / 100, by omega⟩ : Fin 20) = a := Fin.ext (show r.val / 100 = a.val by omega)
  have e₂ : (⟨r.val % 100, by omega⟩ : Fin 100) = b := Fin.ext (show r.val % 100 = b.val by omega)
  rw [e₁, e₂]

end Cert.KernelIdeal.Gen

end
-- ==== Proof.KI.Block.lean ====
/- The blocks the grid's points compute, as the mathematics of a graph-convolution layer over the argument arrays. -/
module

public import proofs.«01_k».proof.Proof.KI.Inputs

@[expose] public section

set_option maxRecDepth 16384

noncomputable section

namespace Cert.KernelIdeal.Gen

open Idealize.ShloMosaic Idealize.ShloMosaic.TcCoe Idealize.ShloMosaic.Tactic
open Idealize.SL.Sem
open Cert.Layer

variable (m : (ℓ : Loc nD τ sig) → Buf (Elt Ideal) ℓ) (c : Dev nD)

/-- The first given score of a pair. -/
abbrev given1 (i j : Fin 2000) : EReal := arg m c main_arg1 (ix2 i j)
/-- The second given score of a pair. -/
abbrev given2 (i j : Fin 2000) : EReal := arg m c main_arg2 (ix2 i j)
/-- The third given score of a pair. -/
abbrev given3 (i j : Fin 2000) : EReal := arg m c main_arg3 (ix2 i j)

/-- The scores that the features `H` give, over the argument arrays. -/
abbrev scoreOf (H : Vec Ideal S2000x128 .f32) : Fin 2000 → Fin 2000 → EReal :=
  score (fun e k => arg m c main_arg6 (ix3 0 e k)) (given1 m c) (given2 m c) (given3 m c)
    (fun j k => H (ix2 j k))

/-- The candidate mask of a row. -/
abbrev maskOf (i : Fin 2000) : EReal := arg m c main_arg4 (ix2 i 0)

/-- The weight of the diagonal. -/
abbrev diagOf : EReal := arg m c main_arg7 (fun a => a.elim0)

/-- The features after round `l`, from the features `H` before it, over the argument arrays. -/
abbrev after (l : Fin 2) (H : Vec Ideal S2000x128 .f32) : Fin 2000 → Fin 128 → EReal :=
  convolved (scoreOf m c H) (maskOf m c) (diagOf m c) (fun e k => arg m c main_arg8 (ix3 l e k))
    (fun k => arg m c main_arg9 (ix2 l k)) (fun j k => H (ix2 j k))

/-- The scaled adjacency sum at an entry. -/
theorem sArr_at (r j : Fin 2000) :
    sArr m c (ix2 r j) = quarter * ((given1 m c r j + given2 m c r j) + given3 m c r j) := by
  have hr := r.isLt
  have ht : (pt 0 r).val = r.val / 400 := by show 5 * 0 + r.val / 400 = _; omega
  have h5 : (pt 0 r).val < 5 := by omega
  have hlt : 400 * ((pt 0 r).val % 5) + (⟨r.val % 400, Nat.mod_lt _ (by decide)⟩ : Fin 400).val < 2000 := by
    show 400 * ((pt 0 r).val % 5) + r.val % 400 < 2000; omega
  have e : (⟨400 * ((pt 0 r).val % 5) + (⟨r.val % 400, Nat.mod_lt _ (by decide)⟩ : Fin 400).val, hlt⟩ : Fin 2000) = r :=
    Fin.ext (by show 400 * ((pt 0 r).val % 5) + r.val % 400 = r.val; omega)
  show k0_pay8 (iblk m c 1 (pt 0 r)) (iblk m c 2 (pt 0 r)) (iblk m c 3 (pt 0 r))
    (ix2 ⟨r.val % 400, Nat.mod_lt _ (by decide)⟩ j) = _
  rw [pay8_at, in1 m c _ h5 _ _ hlt, in2 m c _ h5 _ _ hlt, in3 m c _ h5 _ _ hlt, e]

section
variable (t : Fin cfg0.N) (p : Fin 400) (hp : 400 * (t.val % 5) + p.val < 2000)

/-- The point's rows of the features. -/
theorem rowsH_at (H : Vec Ideal S2000x128 .f32) (k : Fin 128) :
    rowsH (grid0.coords t) H (ix2 p k) = H (ix2 ⟨400 * (t.val % 5) + p.val, hp⟩ k) :=
  window_apply H (off1_eq t) (k0_off1_inb _) p k hp
/-- The point's rows of the adjacency sum. -/
theorem rowsS_at (X : Vec Ideal S2000x2000 .f32) (j : Fin 2000) :
    rowsS (grid0.coords t) X (ix2 p j) = X (ix2 ⟨400 * (t.val % 5) + p.val, hp⟩ j) :=
  window_apply X (off3_eq t) (k0_off3_inb _) p j hp
/-- The point's rows of the mask. -/
theorem rowsC_at :
    rowsC (grid0.coords t) (cmA m c) (ix2 p 0) = maskOf m c ⟨400 * (t.val % 5) + p.val, hp⟩ :=
  (window_apply (cmA m c) (off4_eq t) (k0_off4_inb _) p 0 hp).trans (in4 m c pt0 _)

/-- The point's scores are the layer's. -/
theorem scores_at (H : Vec Ideal S2000x128 .f32) (j : Fin 2000) :
    k0_pay9 (rowsH (grid0.coords t) H) (iblk m c 5 t) (k0_pay7 H) (rowsS (grid0.coords t) (sArr m c)) (ix2 p j)
      = scoreOf m c H ⟨400 * (t.val % 5) + p.val, hp⟩ j := by
  rw [pay9_at, rowsS_at t p hp, sArr_at]
  unfold scoreOf
  rw [← score_split]
  simp only [rowsH_at t p hp, pay7_at, in5]

/-- The point's divisors are the layer's. -/
theorem divisor_at (H : Vec Ideal S2000x128 .f32) :
    k0_pay11 (rowsH (grid0.coords t) H) (iblk m c 5 t) (k0_pay7 H) (rowsS (grid0.coords t) (sArr m c)) (cmA m c)
        (rowsC (grid0.coords t) (cmA m c)) (iblk m c 6 t) (ix2 p 0)
      = divisor (scoreOf m c H) (maskOf m c) (diagOf m c) ⟨400 * (t.val % 5) + p.val, hp⟩ := by
  have hm : ∀ j : Fin 2000, cmA m c (ix2 j 0) = maskOf m c j := fun j => in4 m c pt0 j
  rw [pay11_at]
  unfold divisor
  simp only [scores_at m c t p hp, rowsC_at m c t p hp, in6, hm]

/-- The next features that the point computes are the layer's, where the masks and the diagonal weight are not
    negative. -/
theorem next_at (hc : ∀ i, 0 ≤ maskOf m c i) (hw : 0 ≤ diagOf m c) (h : t.val / 5 < 2)
    (H : Vec Ideal S2000x128 .f32) (k : Fin 128) :
    k0_pay1 (rowsH (grid0.coords t) H)
        (k0_pay9 (rowsH (grid0.coords t) H) (iblk m c 5 t) (k0_pay7 H) (rowsS (grid0.coords t) (sArr m c)))
        (rowsC (grid0.coords t) (cmA m c)) (k0_pay10 (rowsC (grid0.coords t) (cmA m c)) (iblk m c 6 t))
        (k0_pay11 (rowsH (grid0.coords t) H) (iblk m c 5 t) (k0_pay7 H) (rowsS (grid0.coords t) (sArr m c)) (cmA m c)
          (rowsC (grid0.coords t) (cmA m c)) (iblk m c 6 t))
        (k0_pay6 (cmA m c) H) (iblk m c 7 t) (iblk m c 8 t) (ix2 p k)
      = after m c ⟨t.val / 5, h⟩ H ⟨400 * (t.val % 5) + p.val, hp⟩ k := by
  have hm : ∀ j : Fin 2000, cmA m c (ix2 j 0) = maskOf m c j := fun j => in4 m c pt0 j
  rw [pay1_at]
  unfold after convolved
  simp only [message_eq (fun i j => score_nonneg _ _ _ _ _ i j) hc hw]
  unfold messageOut
  simp only [scores_at m c t p hp, divisor_at m c t p hp, rowsC_at m c t p hp, pay10_at, pay6_at, rowsH_at t p hp, in6,
    in7 m c t _ _ h, in8 m c t _ h, hm]

end

end Cert.KernelIdeal.Gen

end
-- ==== Proof.KI.Value.lean ====
/- What the kernel leaves in its result array: the output layer over the features after two rounds, at every entry. -/
module

public import proofs.«01_k».proof.Proof.KI.Block
public import proofs.«01_k».proof.Proof.KI.Body

@[expose] public section

set_option maxRecDepth 16384

noncomputable section

namespace Cert.KernelIdeal.Gen

open Idealize.ShloMosaic Idealize.ShloMosaic.TcCoe Idealize.ShloMosaic.Tactic
open Idealize.SL.Sem
open Cert.Layer

variable (m : (ℓ : Loc nD τ sig) → Buf (Elt Ideal) ℓ) (c : Dev nD)

/-! ## The features -/

/-- The features of the first round are the embeddings. -/
theorem feat0_eq : feat0 m c = arg m c main_arg0 := by
  unfold feat0
  rw [pay4_eq]
  funext y
  rw [ValueIdx.eq_ix2 y]
  exact in0 m c pt0 _ _

/-- The features between the two rounds are the layer's. -/
theorem next1_at (hc : ∀ i, 0 ≤ maskOf m c i) (hw : 0 ≤ diagOf m c) (r : Fin 2000) (k : Fin 128) :
    next1 m c (ix2 r k) = after m c 0 (arg m c main_arg0) r k := by
  have hr := r.isLt
  have ht : (pt 0 r).val = r.val / 400 := by show 5 * 0 + r.val / 400 = _; omega
  have hl : (pt 0 r).val / 5 < 2 := by omega
  have hp : 400 * ((pt 0 r).val % 5) + (⟨r.val % 400, Nat.mod_lt _ (by decide)⟩ : Fin 400).val < 2000 := by
    show 400 * ((pt 0 r).val % 5) + r.val % 400 < 2000; omega
  have e : (⟨400 * ((pt 0 r).val % 5) + (⟨r.val % 400, Nat.mod_lt _ (by decide)⟩ : Fin 400).val, hp⟩ : Fin 2000) = r :=
    Fin.ext (by show 400 * ((pt 0 r).val % 5) + r.val % 400 = r.val; omega)
  have e' : (⟨(pt 0 r).val / 5, hl⟩ : Fin 2) = 0 := Fin.ext (by show (pt 0 r).val / 5 = 0; omega)
  show hBlk m c (pt 0 r) (feat0 m c) (ix2 ⟨r.val % 400, Nat.mod_lt _ (by decide)⟩ k) = _
  unfold hBlk blkH
  rw [pay2_eq, next_at m c (pt 0 r) ⟨r.val % 400, Nat.mod_lt _ (by decide)⟩ hp hc hw hl, e, e', feat0_eq]

/-- Those features as an array. -/
def second : Vec Ideal S2000x128 .f32 := fun y => after m c 0 (arg m c main_arg0) (y 0) (y 1)

/-- The features between the two rounds, as an array. -/
theorem next1_eq (hc : ∀ i, 0 ≤ maskOf m c i) (hw : 0 ≤ diagOf m c) : next1 m c = second m c := by
  funext y
  rw [ValueIdx.eq_ix2 y]
  exact next1_at m c hc hw _ _

/-! ## The output array -/

/-- The output array: each row block as its point writes it. -/
def outArr : Vec Ideal S2x2000x1 .f32 := fun y =>
  oBlk m c (pt (y 0) (y 1)) (feat m c (pt (y 0) (y 1)).val)
    (ix3 0 ⟨(y 1).val % 400, Nat.mod_lt _ (by decide)⟩ 0)

/-- The window of the output writes each row block of each round once. -/
theorem final_out : (dats m 0 c).arrAt 12 (cfgs 0).N = outArr m c := by
  refine (dats m 0 c).arrAt_eq_of_covers 12 _ (by decide +kernel) fun t hf y => ?_
  blk_simp
  rw [after0_12]
  have hN : t.val < 10 := lt_of_lt_of_eq t.isLt (show cfg0.N = 10 from N_0)
  obtain ⟨p, rfl⟩ : ∃ p : Fin 400, y = (ix3 0 p 0 : S1x400x1.Idx) := ⟨y 1, funext fun a => match a with
    | 0 => Subsingleton.elim (α := Fin 1) _ _
    | 1 => rfl
    | 2 => Subsingleton.elim (α := Fin 1) _ _⟩
  have hp := p.isLt
  have e : (win0_12.blk t).view.emb (ix3 0 p 0)
      = (ix3 ⟨t.val / 5, by omega⟩ ⟨400 * (t.val % 5) + p.val, by omega⟩ 0 : S2x2000x1.Idx) := by blk_ext [idx t]
  have et : pt ⟨t.val / 5, by omega⟩ ⟨400 * (t.val % 5) + p.val, by omega⟩ = t :=
    Fin.ext (by show 5 * (t.val / 5) + (400 * (t.val % 5) + p.val) / 400 = t.val; omega)
  have ep : (⟨(400 * (t.val % 5) + p.val) % 400, Nat.mod_lt _ (by decide)⟩ : Fin 400) = p :=
    Fin.ext (by show (400 * (t.val % 5) + p.val) % 400 = p.val; omega)
  rw [e]
  show _ = oBlk m c (pt ⟨t.val / 5, _⟩ ⟨400 * (t.val % 5) + p.val, _⟩)
    (feat m c (pt ⟨t.val / 5, _⟩ ⟨400 * (t.val % 5) + p.val, _⟩).val)
    (ix3 0 ⟨(400 * (t.val % 5) + p.val) % 400, Nat.mod_lt _ (by decide)⟩ 0)
  rw [et, ep]

/-- The output mask. -/
abbrev outMask (a : Fin 20) (b : Fin 100) : EReal := arg m c main_arg5 (ix2 a b)
/-- The output layer's weights. -/
abbrev outWeight (e : Fin 128) : EReal := arg m c main_arg10 (ix2 e 0)
/-- The output layer's bias. -/
abbrev outBias : EReal := arg m c main_arg11 (ix1 0)

/-- An entry of the second round's part of the output array. -/
theorem outArr_at (hc : ∀ i, 0 ≤ maskOf m c i) (hw : 0 ≤ diagOf m c) (r : Fin 2000) (a : Fin 20) (b : Fin 100)
    (hab : r.val = 100 * a.val + b.val) :
    outArr m c (ix3 1 r 0)
      = outMask m c a b * ((∑ e, after m c 1 (second m c) r e * outWeight m c e) + outBias m c) := by
  have hr := r.isLt
  have ht : (pt 1 r).val = 5 + r.val / 400 := by show 5 * 1 + r.val / 400 = _; omega
  have hl : (pt 1 r).val / 5 < 2 := by omega
  have hp : 400 * ((pt 1 r).val % 5) + (⟨r.val % 400, Nat.mod_lt _ (by decide)⟩ : Fin 400).val < 2000 := by
    show 400 * ((pt 1 r).val % 5) + r.val % 400 < 2000; omega
  have e : (⟨400 * ((pt 1 r).val % 5) + (⟨r.val % 400, Nat.mod_lt _ (by decide)⟩ : Fin 400).val, hp⟩ : Fin 2000) = r :=
    Fin.ext (by show 400 * ((pt 1 r).val % 5) + r.val % 400 = r.val; omega)
  have e' : (⟨(pt 1 r).val / 5, hl⟩ : Fin 2) = 1 := Fin.ext (by show (pt 1 r).val / 5 = 1; omega)
  have ef : feat m c (pt 1 r).val = second m c := by
    unfold feat
    rw [if_neg (by omega), pay5_eq, next1_eq m c hc hw]
  show oBlk m c (pt 1 r) (feat m c (pt 1 r).val) (ix3 0 ⟨r.val % 400, Nat.mod_lt _ (by decide)⟩ 0) = _
  rw [ef]
  unfold oBlk blkO
  rw [pay3_at]
  simp only [next_at m c (pt 1 r) ⟨r.val % 400, Nat.mod_lt _ (by decide)⟩ hp hc hw hl, e, e', in9, in10]
  rw [in11 m c (pt 1 r) ⟨r.val % 400, Nat.mod_lt _ (by decide)⟩ r
    (by show r.val = 400 * ((pt 1 r).val % 5) + r.val % 400; omega) a b hab]

/-! ## The result -/

/-- What the result array holds at the end. -/
abbrev res : Buf (Elt Ideal) ((c.tc : Thread nD τ).loc main_v8) :=
  Pipeline.afterTail₀ cfgs (dats m) 0 (V0 m) [hostOps1] c main_v8

/-- The result is the second round's part of the output array, in row-major order. -/
theorem res_eq_out (r : Fin 2000) (a : Fin 20) (b : Fin 100) (hab : r.val = 100 * a.val + b.val) :
    res m c (ix2 a b) = outArr m c (ix3 1 r 0) := by
  have hA : Pipeline.withArrays (cfgs 0).spec c (V0 m c) (fun w => (dats m 0 c).arrAt w (cfgs 0).N)
      (Proc.devRef .tc main_v5) = outArr m c :=
    (Pipeline.withArrays_arr (cfgs 0).spec (by decide) c (V0 m c) _ 12).trans (final_out m c)
  show StableHlo.after hostOps1 _ (Proc.devRef .tc main_v8) _ = _
  unfold hostOps1
  after_reads_simp
  rw [hA]
  generalize outArr m c = X
  clean_types
  pointwise
  exact congrArg (fun q => X (ix3 1 q 0)) (Fin.ext (show a.val * 100 + b.val = r.val by omega))

/-- An entry of the result: the output layer over the features after two rounds. -/
theorem res_at (hc : ∀ i, 0 ≤ maskOf m c i) (hw : 0 ≤ diagOf m c) (r : Fin 2000) (a : Fin 20) (b : Fin 100)
    (hab : r.val = 100 * a.val + b.val) :
    res m c (ix2 a b)
      = outMask m c a b * ((∑ e, after m c 1 (second m c) r e * outWeight m c e) + outBias m c) :=
  (res_eq_out m c r a b hab).trans (outArr_at m c hc hw r a b hab)

/-- Every run ends with the result array at `res`. -/
theorem run_res (ρ : Dev nD → PrngReg) : θ_run defs (onTc (τ := τ) (main (F := Ideal))) ⟨m, fun _ => 0, ρ⟩
    (fun r => ∀ c : Dev nD, r.2.mem ((c.tc : Thread nD τ).loc main_v8) = res m c) :=
  (θ_run defs _ _).mono (fun _ h c => (h c).2 main_v8 (by decide +kernel)) (run_main m ρ)

end Cert.KernelIdeal.Gen

end
-- ==== Proof.Algebraic.lean ====
/- The kernel and the reference leave the same result where no mask entry and not the diagonal weight is negative. -/
module

public import proofs.«01_k».proof.Defs
public import proofs.«01_k».proof.Proof.Gen.ReferenceIdeal
public import proofs.«01_k».proof.Proof.Gen.ReferenceIdeal.Run
public import proofs.«01_k».proof.Proof.KI.Value
public import proofs.«01_k».proof.Proof.RI.Value

@[expose] public section

set_option maxRecDepth 16384

noncomputable section

namespace Cert.Proof

open Idealize.ShloMosaic Idealize.SL.Sem
open Cert.KernelIdeal.Gen (arg res maskOf diagOf second)
open Cert.ReferenceIdeal.Read (val_main_v46 val_main_v87 val_main_v94)

/-! ## The precondition -/

/-- The side condition of the precondition's broadcasts. -/
theorem preFacts : Cert.Pre_nonneg_masks.Facts := ⟨by decide⟩

/-- The precondition says that no entry of the mask and not the diagonal weight is negative. -/
theorem nonneg_of_pre (m : (ℓ : Loc Cert.KernelIdeal.nD Cert.KernelIdeal.τ Cert.KernelIdeal.sig) → Buf (Elt Ideal) ℓ)
    (h : Cert.Pre_KernelIdeal_nonneg_masks (hPre_nonneg_masks := preFacts) m) (c : Dev Cert.KernelIdeal.nD) :
    (∀ i, 0 ≤ maskOf m c i) ∧ 0 ≤ diagOf m c := by
  have key : ∀ i : Fin 2000, 0 ≤ maskOf m c i ∧ 0 ≤ diagOf m c := fun i => by
    have e := congrFun (h c) (ix2 i 0)
    unfold Cert.Pre_nonneg_masks.fn at e
    pointwise at e
    rw [WordCmp.andi_ofBool, WordCmp.ofBool_eq_one_iff, Bool.and_eq_true, decide_eq_true_eq, decide_eq_true_eq] at e
    exact ⟨e.1, e.2.trans_eq (congrArg (arg m c Cert.KernelIdeal.main_arg7) (funext fun a => a.elim0))⟩
  exact ⟨fun i => (key i).1, (key 0).2⟩

/-! ## The two results -/

section
variable (m : (ℓ : Loc Cert.KernelIdeal.nD Cert.KernelIdeal.τ Cert.KernelIdeal.sig) → Buf (Elt Ideal) ℓ)
  (c : Dev Cert.KernelIdeal.nD)

/-- The reference's features after the first round, from the kernel's arguments. -/
theorem first_round :
    val_main_v46 (F := Ideal) (arg m c Cert.KernelIdeal.main_arg0) (arg m c Cert.KernelIdeal.main_arg1)
        (arg m c Cert.KernelIdeal.main_arg2) (arg m c Cert.KernelIdeal.main_arg3) (arg m c Cert.KernelIdeal.main_arg4)
        (arg m c Cert.KernelIdeal.main_arg6) (arg m c Cert.KernelIdeal.main_arg7) (arg m c Cert.KernelIdeal.main_arg8)
        (arg m c Cert.KernelIdeal.main_arg9)
      = second m c := by
  funext y
  rw [ValueIdx.eq_ix2 y]
  exact Cert.ReferenceIdeal.Read.round_at _ _ _ _ _ _ _ _ _ _ _

/-- The reference's result, from the kernel's arguments, is what the kernel leaves. -/
theorem results_equal (hc : ∀ i, 0 ≤ maskOf m c i) (hw : 0 ≤ diagOf m c) :
    val_main_v94 (F := Ideal) (arg m c Cert.KernelIdeal.main_arg0) (arg m c Cert.KernelIdeal.main_arg1)
        (arg m c Cert.KernelIdeal.main_arg2) (arg m c Cert.KernelIdeal.main_arg3) (arg m c Cert.KernelIdeal.main_arg4)
        (arg m c Cert.KernelIdeal.main_arg5) (arg m c Cert.KernelIdeal.main_arg6) (arg m c Cert.KernelIdeal.main_arg7)
        (arg m c Cert.KernelIdeal.main_arg8) (arg m c Cert.KernelIdeal.main_arg9) (arg m c Cert.KernelIdeal.main_arg10)
        (arg m c Cert.KernelIdeal.main_arg11)
      = res m c := by
  funext y
  obtain ⟨a, b, rfl⟩ : ∃ (a : Fin 20) (b : Fin 100), y = ValueIdx.ix2 a b := ⟨y 0, y 1, ValueIdx.eq_ix2 y⟩
  have ha := a.isLt
  have hb := b.isLt
  rw [Cert.ReferenceIdeal.Read.result_at _ _ _ _ _ _ _ _ _ _ _ _ a b ⟨100 * a.val + b.val, by omega⟩ rfl]
  refine Eq.trans ?_ (Cert.KernelIdeal.Gen.res_at m c hc hw ⟨100 * a.val + b.val, by omega⟩ a b rfl).symm
  simp only [Cert.ReferenceIdeal.Read.mat, Cert.ReferenceIdeal.Read.second_round_at, first_round]
  rfl

end

/-- The two programs leave the same result. -/
theorem algebraic : Cert.algebraic_KernelIdeal_ReferenceIdeal_pre_nonneg_masks
    (hKernelIdeal := Cert.KernelIdeal.Gen.facts) (hReferenceIdeal := Cert.ReferenceIdeal.Gen.facts)
    (hPre_nonneg_masks := preFacts) := by
  intro m ρ m' ρ' hpre hagree
  refine ⟨fun c => res m c, ?_, ?_⟩
  · exact (θ_run Cert.KernelIdeal.defs _ _).mono (fun r h c => ⟨h.2 c, h.1.1 c⟩)
      (θ_run_and (Cert.KernelIdeal.Gen.frame m ρ) (Cert.KernelIdeal.Gen.run_res m ρ))
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v94_eq m' c, h0, h1, h2, h3, h4, h5, h6, h7, h8, h9, h10, h11]
    exact results_equal m c (nonneg_of_pre m hpre c).1 (nonneg_of_pre m hpre c).2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Body
public import proofs.«01_k».proof.Proof.KI.Body
public import proofs.«01_k».proof.Proof.RI.Value
public import proofs.«01_k».proof.Proof.Algebraic
public import Idealize.ShloMosaic.Adequacy
public import Idealize.ShloMosaic.Init

@[expose] public section

set_option maxRecDepth 16384

noncomputable section

namespace Cert.Proof

open Idealize.ShloMosaic Idealize.SL.Sem

/-- The reference runs, leaves its arguments unchanged, and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything the certificate claims. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ,
  fun m ρ _ => Cert.KernelIdeal.Gen.frame m ρ, frame_ref, fun m ρ _ => frame_ref m ρ trivial, trivial, algebraic⟩

end Cert.Proof

end
